-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S4 : Shape := ⟨1, ![4]⟩
abbrev S_ : Shape := ⟨0, ![]⟩
abbrev S1 : Shape := ⟨1, ![1]⟩
abbrev S64x256 : Shape := ⟨2, ![64, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .local _ .vmem, ⟨0, _⟩ => ⟨S256x256, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_18 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_17 : BitVec 32 := 2#32
  let v23 : BitVec 32 := Scalar.muli v6 c2_i32_17
  let v24 : BitVec 32 := Scalar.addi c0_i32_18 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v25 : BitVec 32 := Scalar.muli v5 c1_i32_19
  let v26 : BitVec 32 := Scalar.addi v24 v25
  v26.toNat
def k0_dev4 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v33 : BitVec 32 := Scalar.muli v6 c2_i32_26
  let v34 : BitVec 32 := Scalar.addi c0_i32_27 v33
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v35 : BitVec 32 := Scalar.muli v5 c1_i32_28
  let v36 : BitVec 32 := Scalar.addi v34 v35
  v36.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v43 : BitVec 32 := Scalar.muli v6 c2_i32_34
  let v44 : BitVec 32 := Scalar.addi c0_i32_35 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v45 : BitVec 32 := Scalar.muli v5 c1_i32_36
  let v46 : BitVec 32 := Scalar.addi v44 v45
  v46.toNat
def k0_dev6 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v53 : BitVec 32 := Scalar.muli v6 c2_i32_41
  let v54 : BitVec 32 := Scalar.addi c0_i32_42 v53
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v55 : BitVec 32 := Scalar.muli v5 c1_i32_43
  let v56 : BitVec 32 := Scalar.addi v54 v55
  v56.toNat
def k0_off1 (d0 : Dev nD) : Fin 2 → Nat :=
  let c0_67 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  let v78 : Index := Scalar.indexCast v22
  ![0, v78.toNat]
def k0_off2 (d0 : Dev nD) : Fin 2 → Nat :=
  let c0_i32_73 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  ![0, v22.toNat]
def k0_dev7 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v80 : BitVec 32 := Scalar.muli v2 c2_i32_70
  let v81 : BitVec 32 := Scalar.addi c0_i32_71 v80
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_72 : BitVec 32 := 1#32
  let v82 : BitVec 32 := Scalar.muli v7 c1_i32_72
  let v83 : BitVec 32 := Scalar.addi v81 v82
  v83.toNat
def k0_off3 (d0 : Dev nD) : Fin 2 → Nat :=
  let c64_94 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  let v105 : Index := Scalar.indexCast v22
  ![64, v105.toNat]
def k0_off4 (d0 : Dev nD) : Fin 2 → Nat :=
  let c64_i32_100 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  ![64, v22.toNat]
def k0_dev8 (d0 : Dev nD) : Nat :=
  let c0_i32_98 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_97 : BitVec 32 := 2#32
  let v107 : BitVec 32 := Scalar.muli v2 c2_i32_97
  let v108 : BitVec 32 := Scalar.addi c0_i32_98 v107
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_99 : BitVec 32 := 1#32
  let v109 : BitVec 32 := Scalar.muli v7 c1_i32_99
  let v110 : BitVec 32 := Scalar.addi v108 v109
  v110.toNat
def k0_off5 (d0 : Dev nD) : Fin 2 → Nat :=
  let c128_121 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  let v132 : Index := Scalar.indexCast v22
  ![128, v132.toNat]
def k0_off6 (d0 : Dev nD) : Fin 2 → Nat :=
  let c128_i32_127 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  ![128, v22.toNat]
def k0_dev9 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v134 : BitVec 32 := Scalar.muli v2 c2_i32_124
  let v135 : BitVec 32 := Scalar.addi c0_i32_125 v134
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_126 : BitVec 32 := 1#32
  let v136 : BitVec 32 := Scalar.muli v7 c1_i32_126
  let v137 : BitVec 32 := Scalar.addi v135 v136
  v137.toNat
def k0_off7 (d0 : Dev nD) : Fin 2 → Nat :=
  let c192_148 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  let v159 : Index := Scalar.indexCast v22
  ![192, v159.toNat]
def k0_off8 (d0 : Dev nD) : Fin 2 → Nat :=
  let c192_i32_154 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v22 : BitVec 32 := Scalar.muli v5 c256_i32
  ![192, v22.toNat]
def k0_dev10 (d0 : Dev nD) : Nat :=
  let c0_i32_152 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_151 : BitVec 32 := 2#32
  let v161 : BitVec 32 := Scalar.muli v2 c2_i32_151
  let v162 : BitVec 32 := Scalar.addi c0_i32_152 v161
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_153 : BitVec 32 := 1#32
  let v163 : BitVec 32 := Scalar.muli v7 c1_i32_153
  let v164 : BitVec 32 := Scalar.addi v162 v163
  v164.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x512 : Shape := ⟨2, ![512, 512]⟩
abbrev S2x256x512 : Shape := ⟨3, ![2, 256, 512]⟩
abbrev S_ : Shape := ⟨0, ![]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S2x256x512, .bf16⟩
  | .hbm, ⟨2, _⟩ => ⟨S2x256x512, .f32⟩
  | .hbm, ⟨3, _⟩ => ⟨S_, .f32⟩
  | .hbm, ⟨4, _⟩ => ⟨S256x512, .f32⟩
  | .hbm, ⟨5, _⟩ => ⟨S256x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Reference.lean ====
/-
What the reference computes, read at one place of its result: the entry of the array's upper half plus the entry of its
lower half. The conversions to and from f32 change nothing at the exact instance.
-/
module

public import proofs.«01_k».proof.Proof.Gen.ReferenceIdeal.Run
public import Idealize.ShloMosaic.Lib.Pointwise
public import Idealize.ShloMosaic.Lib.IdealHost
public import Idealize.ShloMosaic.Lib.Pipeline.Value
public import Idealize.ShloMosaic.Lib.Quiescent

@[expose] public section

set_option maxRecDepth 16384

noncomputable section

namespace Cert.ReferenceIdeal.Total

open Cert.ReferenceIdeal Cert.ReferenceIdeal.Gen
open Idealize.ShloMosaic Idealize.ShloMosaic.TcCoe Idealize.SL.Sem

/-- Where half `k` of the array (0 the upper, 1 the lower) holds its entry for place `i` of the result. -/
def inHalf (k : Fin 2) (i : S256x512.Idx) : S512x512.Idx := fun a => match a with
  | 0 => ⟨256 * k.val + (i 0).val, by have h : (i 0).val < 256 := (i 0).isLt; have := k.isLt; show _ < 512; omega⟩
  | 1 => ⟨(i 1).val, (i 1).isLt⟩

/-- The sum of the two halves. -/
def total (x : S512x512.Idx → EReal) : S256x512.Idx → EReal := fun i => x (inHalf 0 i) + x (inHalf 1 i)

/-- An entry of the reshaped array is the entry of that half. -/
theorem reshaped (x : S512x512.Idx → EReal) (h : S512x512.ShapeCasts S2x256x512) (k : Fin 2) (i : S256x512.Idx) (y : S2x256x512.Idx)
    (h0 : (y 0).val = k.val) (h1 : (y 1).val = (i 0).val) (h2 : (y 2).val = (i 1).val) :
    shapeCast S2x256x512 x h y = x (inHalf k i) := by
  refine shapeCast_apply x h y (inHalf k i) ?_
  rw [Shape.rowMajor_val_two, Shape.rowMajor_val_three, h0, h1, h2]
  show (256 * k.val + (i 0).val) * 512 + (i 1).val = (k.val * 256 + (i 0).val) * 512 + (i 1).val
  omega

/-- The operations' composed term is the sum of the two halves. -/
theorem composed (x : S512x512.Idx → EReal) :
    (truncf .bf16 (Host.reduceAdd (extf .f32 (shapeCast _ (x : FVec Ideal S512x512 .bf16) shapeCasts_S512x512_S2x256x512) bitsLt_bf16_f32)
      (constant S_ .f32 0x00000000#32) reducesTo_S2x256x512_S256x512_d0 h_S_) bitsLt_bf16_f32 : FVec Ideal S256x512 .bf16) = total x := by
  funext i
  show Ideal.hostReduceAdd reducesTo_S2x256x512_S256x512_d0 (shapeCast S2x256x512 x shapeCasts_S512x512_S2x256x512)
    (Ideal.ofBits .f32 0x00000000#32) i = total x i
  rw [Ideal.hostReduceAdd_r3_a0, Ideal.ofBits_zero_f32, zero_add, Fin.sum_univ_two]
  exact congrArg₂ (· + ·) (reshaped x _ 0 i _ rfl rfl rfl) (reshaped x _ 1 i _ rfl rfl rfl)

/-- From any memory with zero counters the reference ends with the sum of the two halves of its argument, its argument as
    it was, and no counter raised: it has no semaphore. -/
theorem runs (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v3) = total (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c).1.trans (composed _), (h c).2⟩, sem_eq_zero_of_no_sems rfl r.2⟩)
    (Value.run (F := Ideal) m ρ)

end Cert.ReferenceIdeal.Total

end
-- ==== Proof.Ideal.Mesh.lean ====
/-
The two partners of a device, the semaphores and buffers the kernel works with, and the way it cuts those
buffers: the two 256x256 scratch buffers into four bands of 64 rows, the 256x512 result into two halves of
256 columns, each again into four bands of 64 rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Partners -/

/-- The device across the first mesh axis: same column, other row. -/
def xp (c : Dev nD) : Dev nD := ⟨((c.val % 2) + 2) - 2 * (c.val / 2), by have h : c.val < 4 := c.isLt; show _ < 4; omega⟩
/-- The device across the second mesh axis: same row, other column. -/
def yp (c : Dev nD) : Dev nD := ⟨(2 * (c.val / 2) + 1) - (c.val % 2), by have h : c.val < 4 := c.isLt; show _ < 4; omega⟩

theorem xp_xp (c : Dev nD) : xp (xp c) = c := by revert c; decide
theorem yp_yp (c : Dev nD) : yp (yp c) = c := by revert c; decide
theorem yp_mod (c : Dev nD) : (yp c).val % 2 = 1 - c.val % 2 := by revert c; decide

/-- Both partners are involutions, so each is a rearrangement of the mesh. -/
def xEquiv : Dev nD ≃ Dev nD := ⟨xp, xp, xp_xp, xp_xp⟩
def yEquiv : Dev nD ≃ Dev nD := ⟨yp, yp, yp_yp, yp_yp⟩

theorem devX (c : Dev nD) {n : ℕ} (hn : n = ((c.val % 2) + 2) - 2 * (c.val / 2)) (h : n < nD) : (⟨n, h⟩ : Dev nD) = xp c := Fin.ext hn
theorem devY (c : Dev nD) {n : ℕ} (hn : n = (2 * (c.val / 2) + 1) - (c.val % 2)) (h : n < nD) : (⟨n, h⟩ : Dev nD) = yp c := Fin.ext hn

/-! ## Semaphores and cells -/

/-- The barrier semaphore. -/
abbrev barS : Sem sig := (SemArray.scalar (sig.barrier 0 rfl) : Sems sig S_).sem
/-- The four arrays of four transfer semaphores: sends and receipts across the first axis (0, 1), across the second (2, 3). -/
abbrev semArr : Fin 4 → DmaSems sig S4 := fun
  | 0 => cc0_scratch2 | 1 => cc0_scratch3 | 2 => cc0_scratch4 | 3 => cc0_scratch5
/-- The transfer semaphore of band `k` in array `j`. -/
def tsem (k j : Fin 4) : DmaSem sig := ⟨2 + 4 * j.val + k.val, by show _ < 18; omega⟩

theorem fit4 (k : Fin 4) : ∀ a, (![k.val] : Fin 1 → Nat) a + S1.size a ≤ S4.size a := by revert k; decide
theorem tsem_eq (k j : Fin 4) : (((semArr j).slice (Rect.unit (s := S4) ![k.val] S1.size (fit4 k))).squeeze S_ squeezes_S1_S_).sem = tsem k j := by
  revert k j; decide

/-- Which array and which band a transfer semaphore belongs to. -/
def jOf (q : DmaSem sig) : Fin 4 := ⟨(q.val - 2) / 4 % 4, Nat.mod_lt _ (by decide)⟩
def kOf (q : DmaSem sig) : Fin 4 := ⟨(q.val - 2) % 4, Nat.mod_lt _ (by decide)⟩
theorem jOf_tsem (k j : Fin 4) : jOf (tsem k j) = j := by revert k j; decide
theorem kOf_tsem (k j : Fin 4) : kOf (tsem k j) = k := by revert k j; decide
theorem two_le_tsem (k j : Fin 4) : 2 ≤ (tsem k j).val := by revert k j; decide

abbrev barCell (c : Dev nD) : GSem nD τ sig := ((c : Thread nD τ), .reg barS)
abbrev cell (c : Dev nD) (k j : Fin 4) : GSem nD τ sig := ((c : Thread nD τ), .dma (tsem k j))

/-- The kernel's own semaphores: band first, array second; -/
abbrev osem : Fin 4 × Fin 4 → SemLoc sig := fun p => .dma (tsem p.1 p.2)
/-- with the barrier's, all those of one device. -/
abbrev csem : Option (Fin 4 × Fin 4) → SemLoc sig := fun | none => .reg barS | some p => .dma (tsem p.1 p.2)
abbrev kcell (ci : Dev nD × Option (Fin 4 × Fin 4)) : GSem nD τ sig := ((ci.1 : Thread nD τ), csem ci.2)

theorem tsem_inj {p p' : Fin 4 × Fin 4} (h : tsem p.1 p.2 = tsem p'.1 p'.2) : p = p' :=
  Prod.ext ((kOf_tsem _ _).symm.trans ((congrArg kOf h).trans (kOf_tsem _ _)))
    ((jOf_tsem _ _).symm.trans ((congrArg jOf h).trans (jOf_tsem _ _)))

theorem kcell_injective : Function.Injective kcell := by
  rintro ⟨c, i⟩ ⟨c', i'⟩ h
  have hc : c = c' := congrArg (fun g : GSem nD τ sig => g.1.1) h
  have hs : csem i = csem i' := congrArg Prod.snd h
  have hi : i = i' := by
    cases i <;> cases i'
    · rfl
    · cases hs
    · cases hs
    · exact congrArg some (tsem_inj (SemLoc.dma.inj hs))
  rw [hc, hi]

/-- Whom array `j`'s transfers at a device concern: sends itself, receipts the partner across the axis. -/
def tgt (j : Fin 4) : Dev nD ≃ Dev nD := match j with
  | 0 => Equiv.refl _ | 1 => xEquiv | 2 => Equiv.refl _ | 3 => yEquiv

/-! ## Buffers and their parts -/

abbrev xM : Memref sig .tc .vmem S256x256 .bf16 := Memref.whole cc0_stg0_0
abbrev oM : Memref sig .tc .vmem S256x512 .bf16 := Memref.whole cc0_stg1_0
abbrev sM : Memref sig .tc .vmem S256x256 .bf16 := Memref.whole cc0_scratch0
abbrev rM : Memref sig .tc .vmem S256x256 .bf16 := Memref.whole cc0_scratch1

abbrev bandOff (k : Fin 4) : Fin 2 → ℕ := ![64 * k.val, 0]
theorem bandOff_fit (k : Fin 4) : ∀ a, bandOff k a + S64x256.size a ≤ S256x256.size a := by revert k; decide
/-- Rows `64k .. 64k+63` of a 256x256 buffer. -/
abbrev band (k : Fin 4) : Rect S256x256 := Rect.unit (s := S256x256) (bandOff k) S64x256.size (bandOff_fit k)

abbrev tileOff (k : Fin 4) (c : Dev nD) : Fin 2 → ℕ := ![64 * k.val, 256 * (c.val % 2)]
theorem tileOff_fit (k : Fin 4) (c : Dev nD) : ∀ a, tileOff k c a + S64x256.size a ≤ S256x512.size a := by revert k c; decide
/-- Rows `64k .. 64k+63` of the result, within the columns that device `c`'s row pair sums. -/
abbrev tile (k : Fin 4) (c : Dev nD) : Rect S256x512 := Rect.unit (s := S256x512) (tileOff k c) S64x256.size (tileOff_fit k c)

abbrev sB (k : Fin 4) : Memref sig .tc .vmem S64x256 .bf16 := sM.slice (band k) (fun _ => rfl)
abbrev rB (k : Fin 4) : Memref sig .tc .vmem S64x256 .bf16 := rM.slice (band k) (fun _ => rfl)
abbrev oB (k : Fin 4) (c : Dev nD) : Memref sig .tc .vmem S64x256 .bf16 := oM.slice (tile k c) (fun _ => rfl)

theorem oB_of {off : Fin 2 → ℕ} {k : Fin 4} {c : Dev nD} (h : off = tileOff k c) (inb : ∀ a, off a + S64x256.size a ≤ S256x512.size a) :
    oM.slice (Rect.unit (s := S256x512) off S64x256.size inb) (fun _ => rfl) = oB k c := by subst h; rfl
theorem tile_of {off : Fin 2 → ℕ} {k : Fin 4} {c : Dev nD} (h : off = tileOff k c) (inb : ∀ a, off a + S64x256.size a ≤ S256x512.size a) :
    Rect.unit (s := S256x512) off S64x256.size inb = tile k c := by subst h; rfl

/-- The credit one band's transfer carries. -/
abbrev N : ℕ := (sB 0).view.dmaCredit
theorem N_pos : 0 < N := View.dmaCredit_pos _ (by decide)

/-! ### The parts as index sets -/

theorem mem_band {k : Fin 4} {i : S256x256.Idx} : i ∈ (band k).set ↔ (i 0).val / 64 = k.val := by
  rw [Rect.mem_set_unit]
  have h1 : (i 1).val < 256 := (i 1).isLt
  constructor
  · intro h
    have h0 := h 0
    have h0a : 64 * k.val ≤ (i 0).val := h0.1
    have h0b : (i 0).val < 64 * k.val + 64 := h0.2
    omega
  · intro h a
    match a with
    | 0 => show 64 * k.val ≤ (i 0).val ∧ (i 0).val < 64 * k.val + 64; omega
    | 1 => show 0 ≤ (i 1).val ∧ (i 1).val < 0 + 256; omega

theorem mem_tile {k : Fin 4} {c : Dev nD} {i : S256x512.Idx} : i ∈ (tile k c).set ↔ (i 0).val / 64 = k.val ∧ (i 1).val / 256 = c.val % 2 := by
  rw [Rect.mem_set_unit]
  have h1 : (i 1).val < 512 := (i 1).isLt
  constructor
  · intro h
    have h0a : 64 * k.val ≤ (i 0).val := (h 0).1
    have h0b : (i 0).val < 64 * k.val + 64 := (h 0).2
    have h1a : 256 * (c.val % 2) ≤ (i 1).val := (h 1).1
    have h1b : (i 1).val < 256 * (c.val % 2) + 256 := (h 1).2
    omega
  · intro h a
    match a with
    | 0 => show 64 * k.val ≤ (i 0).val ∧ (i 0).val < 64 * k.val + 64; omega
    | 1 => show 256 * (c.val % 2) ≤ (i 1).val ∧ (i 1).val < 256 * (c.val % 2) + 256; omega

theorem bands_disjoint (k k' : Fin 4) (h : k ≠ k') : Disjoint (band k).set (band k').set :=
  Finset.disjoint_left.mpr fun i hi hi' => h (Fin.ext ((mem_band.mp hi).symm.trans (mem_band.mp hi')))
theorem bands_cover : (Finset.univ : Finset (Fin 4)).biUnion (fun k => (band k).set) = Finset.univ := by
  refine Finset.eq_univ_iff_forall.mpr fun i => Finset.mem_biUnion.mpr ?_
  have h : (i 0).val < 256 := (i 0).isLt
  exact ⟨⟨(i 0).val / 64, by omega⟩, Finset.mem_univ _, mem_band.mpr rfl⟩

/-- The columns of the result that device `c`'s row pair sums. -/
def half (c : Dev nD) : Finset S256x512.Idx := (Finset.univ : Finset (Fin 4)).biUnion fun k => (tile k c).set

theorem mem_half {c : Dev nD} {i : S256x512.Idx} : i ∈ half c ↔ (i 1).val / 256 = c.val % 2 := by
  unfold half
  rw [Finset.mem_biUnion]
  have h : (i 0).val < 256 := (i 0).isLt
  exact ⟨fun ⟨k, _, hk⟩ => (mem_tile.mp hk).2, fun hc => ⟨⟨(i 0).val / 64, by omega⟩, Finset.mem_univ _, mem_tile.mpr ⟨rfl, hc⟩⟩⟩
theorem tiles_disjoint (c : Dev nD) (k k' : Fin 4) (h : k ≠ k') : Disjoint (tile k c).set (tile k' c).set :=
  Finset.disjoint_left.mpr fun i hi hi' => h (Fin.ext ((mem_tile.mp hi).1.symm.trans (mem_tile.mp hi').1))
theorem halves_disjoint (c : Dev nD) : Disjoint (half c) (half (yp c)) :=
  Finset.disjoint_left.mpr fun i hi hi' => by
    have h1 := mem_half.mp hi
    have h2 := mem_half.mp hi'
    rw [yp_mod] at h2; omega
theorem halves_cover (c : Dev nD) : half c ∪ half (yp c) = Finset.univ := by
  refine Finset.eq_univ_iff_forall.mpr fun i => Finset.mem_union.mpr ?_
  have h : (i 1).val < 512 := (i 1).isLt
  rw [mem_half, mem_half, yp_mod]; omega

end Cert.KernelIdeal.Halves

end
-- ==== Proof.Ideal.Contents.lean ====
/-
What the buffers hold: a device's block of `x`, the copy it sends, the half of the result it sums and the whole
result; and what a transfer or a store of one band leaves in the buffer it writes.
-/
module

public import proofs.«01_k».proof.Proof.Ideal.Mesh

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Values -/

/-- Device `c`'s block of `x`, as staged. -/
def xs (c : Dev nD) : (cc0_stg0_0 : Ref sig .tc).ty.Contents (Elt F) :=
  (win0_0.blk (0 : Fin 1)).view.read (Elt F) (m ((c : Thread nD τ).loc main_arg0))
/-- What it sends. -/
def sv (c : Dev nD) : (cc0_scratch0 : Ref sig .tc).ty.Contents (Elt F) := k0_pay1 (xs m c)
/-- What it receives into: the same shape, the partner's copy. -/
def rv (c : Dev nD) : (cc0_scratch1 : Ref sig .tc).ty.Contents (Elt F) := sv m (xp c)
/-- The half of the result it sums: its block and its partner's. -/
def hv (c : Dev nD) : FVec F S256x256 .bf16 := addf (sv m c) (rv m c)

/-- A position of the result, within its half. -/
def within (i : S256x512.Idx) : S256x256.Idx := fun a => match a with
  | 0 => ⟨(i 0).val, (i 0).isLt⟩
  | 1 => ⟨(i 1).val % 256, Nat.mod_lt _ (by decide)⟩
/-- The device of `c`'s row that sums the half a position is in. -/
def owner (c : Dev nD) (i : S256x512.Idx) : Dev nD := if (i 1).val / 256 = c.val % 2 then c else yp c
/-- The result on device `c`. -/
def ov (c : Dev nD) : (cc0_stg1_0 : Ref sig .tc).ty.Contents (Elt F) := fun i => hv m (owner c i) (within i)

theorem owner_yp (c : Dev nD) (i : S256x512.Idx) : owner (yp c) i = owner c i := by
  have h : (i 1).val < 512 := (i 1).isLt
  unfold owner
  rw [yp_mod, yp_yp]
  by_cases hc : (i 1).val / 256 = c.val % 2
  · rw [if_pos hc, if_neg (by omega)]
  · rw [if_neg hc, if_pos (by omega)]
/-- Both devices of a row end with the same result. -/
theorem ov_yp (c : Dev nD) : ov m (yp c) = ov m c := funext fun i => by unfold ov; rw [owner_yp]

/-! ## Transfers and stores -/

omit [FloatOps F] in
/-- A band sent from one scratch buffer to the other arrives as it was. -/
theorem sent_band (k : Fin 4) (fd : (cc0_scratch1 : Ref sig .tc).ty.Contents (Elt F)) (fs : (cc0_scratch0 : Ref sig .tc).ty.Contents (Elt F))
    (i : S256x256.Idx) (hi : i ∈ (rB k).view.set) :
    (rB k).view.write (Elt F) fd ((sB k).view.read (Elt F) fs) Finset.univ i = fs i := by
  obtain ⟨y, rfl⟩ := View.exists_emb_of_mem_set _ hi
  exact View.write_emb_of_mem _ _ (Finset.mem_univ y)

omit [FloatOps F] in
/-- A tile of the result sent to the partner's result buffer arrives as it was. -/
theorem sent_tile (k : Fin 4) (c : Dev nD) (fd fs : (cc0_stg1_0 : Ref sig .tc).ty.Contents (Elt F))
    (i : S256x512.Idx) (hi : i ∈ (oB k c).view.set) :
    (oB k c).view.write (Elt F) fd ((oB k c).view.read (Elt F) fs) Finset.univ i = fs i := by
  obtain ⟨y, rfl⟩ := View.exists_emb_of_mem_set _ hi
  exact View.write_emb_of_mem _ _ (Finset.mem_univ y)

theorem within_tile (k : Fin 4) (c : Dev nD) (y : S64x256.Idx) : within ((tile k c).emb y) = (band k).emb y := by
  have h1 : (y 1).val < 256 := (y 1).isLt
  refine funext fun a => Fin.ext ?_
  match a with
  | 0 => rfl
  | 1 =>
    show (256 * (c.val % 2) + 1 * (y 1).val) % 256 = 0 + 1 * (y 1).val
    omega
theorem owner_tile (k : Fin 4) (c : Dev nD) (y : S64x256.Idx) : owner c ((tile k c).emb y) = c := by
  have h1 : (y 1).val < 256 := (y 1).isLt
  refine if_pos ?_
  show (256 * (c.val % 2) + 1 * (y 1).val) / 256 = c.val % 2
  omega

/-- Storing the sum of the own and the received band leaves the result's tile. -/
theorem summed_tile (k : Fin 4) (c : Dev nD) (f : (cc0_stg1_0 : Ref sig .tc).ty.Contents (Elt F)) (i : S256x512.Idx) (hi : i ∈ (oB k c).view.set) :
    (oM.access (tile k c) : View sig .tc _ _ _).write (Elt F) f
      (addf (sM.view.readAt (Elt F) (band k).toLoadRect (sv m c)) (rM.view.readAt (Elt F) (band k).toLoadRect (rv m c)) : FVec F S64x256 .bf16)
      Finset.univ i = ov m c i := by
  obtain ⟨y, rfl⟩ := View.exists_emb_of_mem_set _ hi
  refine (View.write_emb_of_mem (v := (oM.access (tile k c) : View sig .tc _ _ _)) _ _ (Finset.mem_univ y)).trans ?_
  show FloatOps.addf (sv m c ((band k).emb y)) (rv m c ((band k).emb y)) = hv m (owner c ((tile k c).emb y)) (within ((tile k c).emb y))
  rw [owner_tile, within_tile]
  rfl

/-! ## Whole-buffer accesses -/

abbrev whole256 : Rect S256x256 := Rect.unit (s := S256x256) ![0, 0] S256x256.size inb_S256x256_S256x256_0_0
theorem origin2 : (![0, 0] : Fin 2 → Nat) = fun _ => 0 := funext fun a => by fin_cases a <;> rfl
omit [FloatOps F] in
theorem read_block (f : (cc0_stg0_0 : Ref sig .tc).ty.Contents (Elt F)) : xM.view.readAt (Elt F) whole256.toLoadRect f = f :=
  Memref.readAt_unit_zero (Elt F) cc0_stg0_0 origin2 _ f
omit [FloatOps F] in
theorem write_copy (f w : (cc0_scratch0 : Ref sig .tc).ty.Contents (Elt F)) :
    (sM.access whole256 : View sig .tc _ _ _).write (Elt F) f w Finset.univ = w :=
  Memref.write_access_unit_zero_univ (Elt F) cc0_scratch0 origin2 _ f w

end Cert.KernelIdeal.Halves

end
-- ==== Proof.Ideal.Sched.lean ====
/-
The protocol. A device's barrier cell hears from both partners: the one across the first axis hands over its
receive buffer, the one across the second the half of its result that this device will fill. Each transfer
semaphore completes once: a send gives back the band sent, a receipt gives the band received.
-/
module

public import proofs.«01_k».proof.Proof.Ideal.Contents

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Band `k` of the send buffer, of the receive buffer, and a tile of the result, on device `c`. -/
def sPt (c : Dev nD) (k : Fin 4) (f : Buf (Elt F) ((sB k).view.loc (c : Thread nD τ))) : sProp 𝕄 :=
  (sB k).view.loc (c : Thread nD τ) ↦[(sB k).view.set]{fullShare} f
def rPt (c : Dev nD) (k : Fin 4) (f : Buf (Elt F) ((rB k).view.loc (c : Thread nD τ))) : sProp 𝕄 :=
  (rB k).view.loc (c : Thread nD τ) ↦[(rB k).view.set]{fullShare} f
def oPt (c d : Dev nD) (k : Fin 4) (f : Buf (Elt F) ((oB k d).view.loc (c : Thread nD τ))) : sProp 𝕄 :=
  (oB k d).view.loc (c : Thread nD τ) ↦[(oB k d).view.set]{fullShare} f
/-- The whole receive buffer at some contents; the half `d` fills of `c`'s result, at some contents. -/
def rWhole (c : Dev nD) : sProp 𝕄 := iprop(∃ f : Buf (Elt F) ((c : Thread nD τ).loc cc0_scratch1), ((c : Thread nD τ).loc cc0_scratch1) ↦{fullShare} f)
def oHalf (c d : Dev nD) : sProp 𝕄 := iprop(∃ f : Buf (Elt F) ((c : Thread nD τ).loc cc0_stg1_0), ((c : Thread nD τ).loc cc0_stg1_0) ↦[half d]{fullShare} f)

/-! ## The schedule -/

/-- What the barrier cell of `c` is paid with. -/
def barPay (c : Dev nD) (d : Bool) : sProp 𝕄 := if d then oHalf (yp c) c else rWhole (xp c)
/-- What the completion of array `j`'s transfer of band `k` gives `c`. -/
def bandPay (c : Dev nD) (k j : Fin 4) : sProp 𝕄 := match j with
  | 0 => sPt c k (sv m c)
  | 1 => rPt c k (rv m c)
  | 2 => oPt c c k (ov m c)
  | 3 => oPt c (yp c) k (ov m c)

omit [FloatOps F] in
instance barPay_storable (c : Dev nD) (d : Bool) : BI.Storable (upEmb : UEmb _ 𝕄) (barPay (F := F) c d) := by
  unfold barPay oHalf rWhole; split <;> infer_instance
instance bandPay_storable (c : Dev nD) (k j : Fin 4) : BI.Storable (upEmb : UEmb _ 𝕄) (bandPay m c k j) := by
  match j with
  | 0 => unfold bandPay sPt; infer_instance
  | 1 => unfold bandPay rPt; infer_instance
  | 2 => unfold bandPay oPt; infer_instance
  | 3 => unfold bandPay oPt; infer_instance

/-- One round: a barrier cell has one unit from each partner, a transfer cell the credit of a band. -/
def plan : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with | .reg _ => barPay g.1.1 d | .dma q => bandPay m g.1.1 (kOf q) (jOf q)
  amount_pos g _ _ _ := by
    cases g.2 with
    | reg _ => exact Nat.one_pos
    | dma _ => exact N_pos

instance plan_storable (g : GSem nD τ sig) (r : ℕ) (d : Bool) : BI.Storable (upEmb : UEmb _ 𝕄) ((plan m).payload g r d) := by
  show BI.Storable upEmb (match g.2 with | .reg _ => barPay g.1.1 d | .dma q => bandPay m g.1.1 (kOf q) (jOf q))
  cases g.2 <;> infer_instance

theorem plan_after (g : GSem nD τ sig) (r : ℕ) (h : 1 ≤ r) : (plan m).duties g r = ∅ := if_neg (by omega)

theorem bar_expect (c : Dev nD) : (plan m).expect (barCell c) 0 = 2 := rfl
theorem cell_expect (c : Dev nD) (k j : Fin 4) : (plan m).expect (cell c k j) 0 = N := by
  unfold Schedule.expect Schedule.amountOf
  show (∑ d ∈ ({false} : Finset Bool), N) = N
  rw [Finset.sum_singleton]
theorem cell_duty (c : Dev nD) (k j : Fin 4) : false ∈ (plan m).duties (cell c k j) 0 := Finset.mem_singleton_self false
theorem bar_duty (c : Dev nD) (d : Bool) : d ∈ (plan m).duties (barCell c) 0 := Finset.mem_univ d
theorem cell_payload (c : Dev nD) (k j : Fin 4) : (plan m).payload (cell c k j) 0 false = bandPay m c k j := by
  show bandPay m c (kOf (tsem k j)) (jOf (tsem k j)) = _
  rw [kOf_tsem, jOf_tsem]
theorem bar_rest (c : Dev nD) :
    bigSep ((plan m).duties (barCell c) 0 \ ∅) (fun d => (plan m).payload (barCell c) 0 d) = iprop(rWhole (xp c) ∗ oHalf (yp c) c) := by
  rw [Finset.sdiff_empty]
  exact (bigSep_univ_eq_bigSepL [false, true] (by decide) (by decide) _)
theorem cell_rest (c : Dev nD) (k j : Fin 4) :
    bigSep ((plan m).duties (cell c k j) 0 \ ∅) (fun d => (plan m).payload (cell c k j) 0 d) = bandPay m c k j := by
  rw [Finset.sdiff_empty]
  exact (bigSep_singleton (i := false)).trans (cell_payload m c k j)

/-! ## What is owed, and the levels -/

/-- The tally of a list of debts, the first to be paid last in the sum. -/
def debts : List (GSem nD τ sig × ℕ) → CellTallies nD τ sig Unit
  | [] => 0
  | p :: l => debts l + tallyAt p.1 () p.2

theorem debts_apply (l : List (GSem nD τ sig × ℕ)) (g : GSem nD τ sig) :
    debts l g () = (l.map fun p => if p.1 = g then p.2 else 0).sum := by
  induction l with
  | nil => rfl
  | cons p l ih =>
    show (debts l + tallyAt p.1 () p.2) g () = _
    rw [Pi.add_apply, Finsupp.add_apply, ih, tallyAt_apply, List.map_cons, List.sum_cons, Nat.add_comm]
    refine congrArg (· + _) ?_
    by_cases h : p.1 = g
    · rw [if_pos ⟨h.symm, rfl⟩, if_pos h]
    · rw [if_neg (fun h' => h h'.1.symm), if_neg h]

theorem debts_pos {l : List (GSem nD τ sig × ℕ)} {g : GSem nD τ sig} {u : Unit} (h : 0 < debts l g u) : ∃ p ∈ l, p.1 = g := by
  rw [show u = () from rfl, debts_apply] at h
  by_contra hn
  refine absurd h (Nat.not_lt.mpr (Nat.le_of_eq (List.sum_eq_zero fun n hmem => ?_)))
  obtain ⟨p, hp, rfl⟩ := List.mem_map.mp hmem
  exact if_neg fun e => hn ⟨p, hp, e⟩

/-- The receipts a device owes: band by band from `n` on, in array `j`, at device `c`. -/
def owedFrom (c : Dev nD) (j : Fin 4) (ks : List (Fin 4)) : List (GSem nD τ sig × ℕ) := ks.map fun k => (cell c k j, N)
/-- Everything device `c` owes at launch, in the order it pays. -/
def owed₀ (c : Dev nD) : List (GSem nD τ sig × ℕ) :=
  (barCell (xp c), 1) :: (barCell (yp c), 1) :: (owedFrom (xp c) 1 [0, 1, 2, 3] ++ owedFrom (yp c) 3 [0, 1, 2, 3])

def L (g : GSem nD τ sig) : Finset Unit := if g.1.2 = .tc then {()} else ∅
/-- The barrier below the first receipts, these below the second; staging and sends below all. -/
def lv (g : GSem nD τ sig) (_ : Unit) : ℕ := match g.2 with
  | .reg _ => 1
  | .dma q => if q.val < 2 then 0 else match jOf q with | 1 => 2 | 3 => 3 | _ => 0

theorem L_off (g : GSem nD τ sig) (h : g.1.2 ≠ .tc) : L g = ∅ := if_neg h
theorem L_on (c : Dev nD) (s : SemLoc sig) : L ((c : Thread nD τ), s) = {()} := if_pos rfl
theorem lv_cell (c : Dev nD) (k j : Fin 4) : lv (cell c k j) () = match j with | 1 => 2 | 3 => 3 | _ => 0 := by
  show (if (tsem k j).val < 2 then 0 else match jOf (tsem k j) with | 1 => 2 | 3 => 3 | _ => 0) = _
  rw [if_neg (Nat.not_lt.mpr (two_le_tsem k j)), jOf_tsem]

omit [FloatOps F] in
/-- A device may wait on a cell of its own while all its debts lie at higher levels. -/
theorem may_wait (c : Dev nD) (s : SemLoc sig) (l : List (GSem nD τ sig × ℕ))
    (h : ∀ p ∈ l, L p.1 = {()} ∧ lv ((c : Thread nD τ), s) () < lv p.1 ()) :
    (levAts L lv : sProp 𝕄) ⊢ MayWait (c : Thread nD τ) s () (debts l) :=
  MayOwe.of_cut (L := L) (lev := lv) (lv ((c : Thread nD τ), s) ())
    (fun p hp => by rw [Finset.mem_singleton.mp hp, L_on]; exact Finset.mem_singleton_self _)
    (fun g u hg => by obtain ⟨p, hp, rfl⟩ := debts_pos hg; rw [(h p hp).1]; exact Finset.mem_singleton_self _)
    (fun p hp => by rw [Finset.mem_singleton.mp hp])
    (fun g u hg => by obtain ⟨p, hp, rfl⟩ := debts_pos hg; exact (h p hp).2)

theorem owedFrom_level (c : Dev nD) (j : Fin 4) (ks : List (Fin 4)) (n : ℕ) (h : ∀ k, n < lv (cell c k j) ()) :
    ∀ p ∈ owedFrom c j ks, L p.1 = {()} ∧ n < lv p.1 () := by
  intro p hp
  obtain ⟨k, _, rfl⟩ := List.mem_map.mp hp
  exact ⟨L_on _ _, h k⟩

end Cert.KernelIdeal.Halves

end
-- ==== Proof.Ideal.Steps.lean ====
/-
The steps of the kernel, each proved once for every band: starting a band's first transfer, waiting for it,
summing it and starting the second, and waiting for that.
-/
module

public import proofs.«01_k».proof.Proof.Ideal.Sched

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)
variable (K : Dev nD × Option (Fin 4 × Fin 4) → ℕ)

/-! ## What every device knows -/

/-- Every cell of the mesh follows the plan, and has reached its round. -/
def records : sProp 𝕄 :=
  iprop((bigSep Finset.univ fun ci => cellInv ER (plan m) (K ci) (kcell ci)) ∗ bigSep Finset.univ fun ci => reached ER (kcell ci) 0)

instance records_persistent : BI.Persistent (records m K) := by unfold records; infer_instance

theorem records_inv (ci : Dev nD × Option (Fin 4 × Fin 4)) : records m K ⊢ cellInv ER (plan m) (K ci) (kcell ci) := by
  unfold records
  exact sep_elim_left.trans (bigSep_elim (Φ := fun ci => cellInv ER (plan m) (K ci) (kcell ci)) (Finset.mem_univ ci))
theorem records_reached (ci : Dev nD × Option (Fin 4 × Fin 4)) : records m K ⊢ reached ER (kcell ci) 0 := by
  unfold records
  exact sep_elim_right.trans (bigSep_elim (Φ := fun ci => (reached ER (kcell ci) 0 : sProp 𝕄)) (Finset.mem_univ ci))

/-- Device `c` owing a list of debts. -/
def owing (c : Dev nD) (l : List (GSem nD τ sig × ℕ)) : sProp 𝕄 := iprop(∃ W : Waits sig Unit, owes (c : Thread nD τ) (debts l) W)

/-- The program's continuation from an operation on. -/
abbrev run (c : Dev nD) {α : Type} (Q : α → sProp 𝕄) (p : Prog (TpuEff nD τ sig (Elt F) Λ₀ .tc) α) : sProp 𝕄 :=
  wp frame (wpE (defs₀ (F := F)) 𝒱₀ (c : Thread nD τ) none) Set.univ p Q

/-! ## A band's stages -/

/-- What a band needs from its second transfer on, and the credits of both its receipts. -/
def tail (c : Dev nD) (k : Fin 4) : sProp 𝕄 :=
  iprop((∃ f, oPt c c k f) ∗ (∃ f, oPt (yp c) c k f)
    ∗ dutyTok ER (cell c k 2) 0 false ∗ dutyTok ER (cell (yp c) k 3) 0 false
    ∗ (atPos ER (cell c k 0) 0 ∅ 0 ∗ atPos ER (cell c k 1) 0 ∅ 0 ∗ atPos ER (cell c k 2) 0 ∅ 0 ∗ atPos ER (cell c k 3) 0 ∅ 0)
    ∗ cred (tallyAt (cell c k 1) () N) ∗ cred (tallyAt (cell c k 3) () N))
/-- Copied to the send buffer, not yet sent; -/
def ready (c : Dev nD) (k : Fin 4) : sProp 𝕄 :=
  iprop(sPt c k (sv m c) ∗ (∃ f, rPt (xp c) k f) ∗ dutyTok ER (cell c k 0) 0 false ∗ dutyTok ER (cell (xp c) k 1) 0 false ∗ tail c k)
/-- on its way across the first axis; -/
def inFlight (c : Dev nD) (k : Fin 4) : sProp 𝕄 := iprop(cred (tallyAt (cell c k 0) () N) ∗ tail c k)
/-- received, summed and on its way across the second; -/
def passedOn (c : Dev nD) (k : Fin 4) : sProp 𝕄 :=
  iprop(sPt c k (sv m c) ∗ rPt c k (rv m c) ∗ cred (tallyAt (cell c k 2) () N) ∗ cred (tallyAt (cell c k 3) () N)
    ∗ atPos ER (cell c k 0) 1 ∅ 0 ∗ atPos ER (cell c k 1) 1 ∅ 0 ∗ atPos ER (cell c k 2) 0 ∅ 0 ∗ atPos ER (cell c k 3) 0 ∅ 0)
/-- in the result at both halves, its four cells closed. -/
def finished (c : Dev nD) (k : Fin 4) : sProp 𝕄 :=
  iprop(sPt c k (sv m c) ∗ rPt c k (rv m c) ∗ oPt c c k (ov m c) ∗ oPt c (yp c) k (ov m c)
    ∗ semVal (cell c k 0) 0 ∗ semVal (cell c k 1) 0 ∗ semVal (cell c k 2) 0 ∗ semVal (cell c k 3) 0)

/-! ## Waiting on a transfer cell -/

/-- An operation that waits for a band's credit on the cell `(k, j)`. -/
abbrev Waits' (c : Dev nD) (k j : Fin 4) (w : TpuEff nD τ sig (Elt F) Λ₀ .tc PUnit) : Prop :=
  ∀ G : PUnit → sProp 𝕄, wpE (defs₀ (F := F)) 𝒱₀ (c : Thread nD τ) none Set.univ w G = waitSpec (c : Thread nD τ) Set.univ (.dma (tsem k j)) N G

theorem waits_of (c : Dev nD) (k j : Fin 4) {q : DmaSem sig} (hq : q = tsem k j) {src dst : Memref sig .tc .vmem S64x256 .bf16}
    (hs : src.view.WordExact) (hd : dst.view.WordExact) :
    Waits' (F := F) c k j (.waitDma2 q src dst hs hd) := by
  subst hq
  intro G
  exact wpE_waitDma2_eq 𝒱₀ (c : Thread nD τ) none Set.univ G

theorem wait_cell (c : Dev nD) (k j : Fin 4) {w : TpuEff nD τ sig (Elt F) Λ₀ .tc PUnit} (hw : Waits' c k j w)
    (l : List (GSem nD τ sig × ℕ)) (hl : ∀ p ∈ l, L p.1 = {()} ∧ lv (cell c k j) () < lv p.1 ())
    {α : Type} {Q : α → sProp 𝕄} {kt : PUnit → Prog (TpuEff nD τ sig (Elt F) Λ₀ .tc) α} :
    iprop(records m K ∗ levAts L lv ∗ cred (tallyAt (cell c k j) () N) ∗ owing c l ∗ atPos ER (cell c k j) 0 ∅ 0)
      ⊢ iprop(((owing c l ∗ atPos ER (cell c k j) 1 ∅ 0 ∗ bandPay m c k j) -∗ run c Q (kt ⟨⟩)) -∗ run c Q (.op w kt)) := by
  unfold owing
  iintro ⟨#HR, #Hlev, Hc, ⟨%W, HO⟩, Hat⟩ Hk
  iapply (Rounds.wp_wait_rest_token 𝒱₀ ER (plan m) (c : Thread nD τ) none (κ := K (c, some (k, j))) hw (Set.mem_univ _) ()
      (O := debts l) (W := W) (R := 0) (m := 0) (T := ∅) (by rw [Nat.zero_add]; exact (cell_expect m c k j).symm)) $$ [Hc HO Hat]
  · isplitr; · iapply (records_inv m K (c, some (k, j))); iexact HR
    isplitl [Hc]; · iexact Hc
    isplitl [HO]; · iexact HO
    isplitr; · iapply (may_wait c (.dma (tsem k j)) l hl); iexact Hlev
    iexact Hat
  iintro ⟨HO, Hat, -, Hpay⟩
  ihave Hp := (Entails.of_eq (cell_rest m c k j)) $$ Hpay
  iapply Hk
  isplitl [HO]; · iexists _; iexact HO
  isplitl [Hat]; · iexact Hat
  iexact Hp

theorem close_cell (ci : Dev nD × Option (Fin 4 × Fin 4)) :
    iprop(records m K ∗ atPos ER (kcell ci) 1 ∅ 0) ⊢ |={Set.univ}=> semVal (kcell ci) 0 := by
  iintro ⟨#HR, Hat⟩
  iapply (Rounds.cell_close ER (plan m) (Set.mem_univ (K ci)) (fun h => h) (R := 1) (plan_after m (kcell ci)))
  isplitr; · iapply (records_inv m K ci); iexact HR
  iexact Hat

/-! ## Sending a band, and a tile -/

theorem send_band (c n : Dev nD) (k : Fin 4) (hn : n = xp c) {src dst : Memref sig .tc .vmem S64x256 .bf16} {q q' : DmaSem sig}
    (hs : src = sB k) (hd : dst = rB k) (hq : q = tsem k 0) (hq' : q' = tsem k 1)
    {hsc : dst.view.ref.isScScratch = false} {hsrc : src.view.WordExact} {hdst : dst.view.WordExact}
    {hsem : DmaTarget.Typed .vmem (.dma q') (.remote (Dev.tc n : Thread nD τ) dst (.dma q) hsc)}
    (l : List (GSem nD τ sig × ℕ)) {α : Type} {Q : α → sProp 𝕄} {kt : PUnit → Prog (TpuEff nD τ sig (Elt F) Λ₀ .tc) α} :
    iprop(records m K ∗ sPt c k (sv m c) ∗ (∃ f, rPt (xp c) k f) ∗ owing c ((cell (xp c) k 1, N) :: l)
        ∗ dutyTok ER (cell c k 0) 0 false ∗ dutyTok ER (cell (xp c) k 1) 0 false)
      ⊢ iprop(((cred (tallyAt (cell c k 0) () N) ∗ owing c l) -∗ run c Q (kt ⟨⟩))
          -∗ run c Q (.op (.enqueueDma src (.remote (Dev.tc n : Thread nD τ) dst (.dma q) hsc) (.dma q') hsrc hdst hsem) kt)) := by
  subst hn hs hd hq hq'
  unfold owing sPt rPt
  iintro ⟨#HR, Hs, ⟨%f, Hr⟩, ⟨%W, HO⟩, Ht, Ht'⟩ Hk
  iapply (Rounds.wp_send_pointsTo 𝒱₀ ER (plan m) (c : Thread nD τ) none (κ₁ := K (c, some (k, 0))) (κ₂ := K (xp c, some (k, 1)))
    (r₁ := 0) (r₂ := 0) (d₁ := false) (d₂ := false) (fd := f)
    (cell_duty m c k 0) (cell_duty m (xp c) k 1)
    () () N rfl rfl rfl (debts l) rfl (W := W)
    (by rw [cell_payload]; exact BI.Entails.refl _)
    (by
      rw [cell_payload]
      show _ ⊢ rPt (xp c) k (rv m (xp c))
      unfold rPt rv
      rw [xp_xp]
      exact Entails.of_eq (pointsTo_congr fun i hi => sent_band k _ _ i hi))) $$ [Hs Hr HO Ht Ht']
  · isplitr; · iapply (records_inv m K (c, some (k, 0))); iexact HR
    isplitr; · iapply (records_inv m K (xp c, some (k, 1))); iexact HR
    isplitl [Hs]; · iexact Hs
    isplitl [Hr]; · iexact Hr
    isplitl [HO]; · iexact HO
    isplitl [Ht]; · iexact Ht
    isplitr; · iapply (records_reached m K (c, some (k, 0))); iexact HR
    isplitl [Ht']; · iexact Ht'
    iapply (records_reached m K (xp c, some (k, 1))); iexact HR
  iintro ⟨Hc, HO⟩
  iapply Hk
  isplitl [Hc]; · iexact Hc
  iexists W; iexact HO

theorem send_tile (c n : Dev nD) (k : Fin 4) (hn : n = yp c) {src dst : Memref sig .tc .vmem S64x256 .bf16} {q q' : DmaSem sig}
    (hs : src = oB k c) (hd : dst = oB k c) (hq : q = tsem k 2) (hq' : q' = tsem k 3)
    {hsc : dst.view.ref.isScScratch = false} {hsrc : src.view.WordExact} {hdst : dst.view.WordExact}
    {hsem : DmaTarget.Typed .vmem (.dma q') (.remote (Dev.tc n : Thread nD τ) dst (.dma q) hsc)}
    (l : List (GSem nD τ sig × ℕ)) {α : Type} {Q : α → sProp 𝕄} {kt : PUnit → Prog (TpuEff nD τ sig (Elt F) Λ₀ .tc) α} :
    iprop(records m K ∗ oPt c c k (ov m c) ∗ (∃ f, oPt (yp c) c k f) ∗ owing c ((cell (yp c) k 3, N) :: l)
        ∗ dutyTok ER (cell c k 2) 0 false ∗ dutyTok ER (cell (yp c) k 3) 0 false)
      ⊢ iprop(((cred (tallyAt (cell c k 2) () N) ∗ owing c l) -∗ run c Q (kt ⟨⟩))
          -∗ run c Q (.op (.enqueueDma src (.remote (Dev.tc n : Thread nD τ) dst (.dma q) hsc) (.dma q') hsrc hdst hsem) kt)) := by
  subst hn hs hd hq hq'
  unfold owing oPt
  iintro ⟨#HR, Hs, ⟨%f, Hr⟩, ⟨%W, HO⟩, Ht, Ht'⟩ Hk
  iapply (Rounds.wp_send_pointsTo 𝒱₀ ER (plan m) (c : Thread nD τ) none (κ₁ := K (c, some (k, 2))) (κ₂ := K (yp c, some (k, 3)))
    (r₁ := 0) (r₂ := 0) (d₁ := false) (d₂ := false) (fd := f)
    (cell_duty m c k 2) (cell_duty m (yp c) k 3)
    () () N rfl rfl rfl (debts l) rfl (W := W)
    (by rw [cell_payload]; exact BI.Entails.refl _)
    (by
      rw [cell_payload]
      show _ ⊢ oPt (yp c) (yp (yp c)) k (ov m (yp c))
      rw [yp_yp, ov_yp]
      unfold oPt
      exact Entails.of_eq (pointsTo_congr fun i hi => sent_tile k c _ _ i hi))) $$ [Hs Hr HO Ht Ht']
  · isplitr; · iapply (records_inv m K (c, some (k, 2))); iexact HR
    isplitr; · iapply (records_inv m K (yp c, some (k, 3))); iexact HR
    isplitl [Hs]; · iexact Hs
    isplitl [Hr]; · iexact Hr
    isplitl [HO]; · iexact HO
    isplitl [Ht]; · iexact Ht
    isplitr; · iapply (records_reached m K (c, some (k, 2))); iexact HR
    isplitl [Ht']; · iexact Ht'
    iapply (records_reached m K (yp c, some (k, 3))); iexact HR
  iintro ⟨Hc, HO⟩
  iapply Hk
  isplitl [Hc]; · iexact Hc
  iexists W; iexact HO

/-! ## A band from receipt to sending on -/

/-- Both waits for a band's first transfer, the sum of the own and the received band stored in the result, and the
    start of the second transfer with it. -/
theorem forward_band (c n : Dev nD) (k : Fin 4) (hn : n = yp c)
    {w w' : TpuEff nD τ sig (Elt F) Λ₀ .tc PUnit} (hw : Waits' c k 0 w) (hw' : Waits' c k 1 w')
    {off off' : Fin 2 → ℕ} {inb : ∀ a, off a + S64x256.size a ≤ S256x256.size a} (hoff : off = bandOff k)
    {inb' : ∀ a, off' a + S64x256.size a ≤ S256x512.size a} (hoff' : off' = tileOff k c)
    {ld₁ : sM.view.LoadsAt (Rect.unit (s := S256x256) off S64x256.size inb).toLoadRect}
    {ld₂ : rM.view.LoadsAt (Rect.unit (s := S256x256) off S64x256.size inb).toLoadRect}
    {ld₃ : oM.view.LoadsAt (Rect.unit (s := S256x512) off' S64x256.size inb').toLoadRect}
    {pay : Vec F S64x256 .bf16 → Vec F S64x256 .bf16 → FVec F S64x256 .bf16} (hpay : ∀ a b, pay a b = addf a b)
    {stx : (oM.access (Rect.unit (s := S256x512) off' S64x256.size inb')).Stores Finset.univ}
    {stm : (Finset.univ : Finset (Rect.unit (s := S256x512) off' S64x256.size inb').shape.Idx) = Finset.univ ∨ ∀ a, (Rect.unit (s := S256x512) off' S64x256.size inb').stride a = 1}
    {src dst : Memref sig .tc .vmem S64x256 .bf16} {q q' : DmaSem sig}
    (hs : src = oB k c) (hd : dst = oB k c) (hq : q = tsem k 2) (hq' : q' = tsem k 3)
    {hsc : dst.view.ref.isScScratch = false} {hsrc : src.view.WordExact} {hdst : dst.view.WordExact}
    {hsem : DmaTarget.Typed .vmem (.dma q') (.remote (Dev.tc n : Thread nD τ) dst (.dma q) hsc)}
    (l : List (GSem nD τ sig × ℕ)) (hl : ∀ p ∈ (cell (yp c) k 3, N) :: l, L p.1 = {()} ∧ 2 < lv p.1 ())
    {α : Type} {Q : α → sProp 𝕄} {kt : PUnit → Prog (TpuEff nD τ sig (Elt F) Λ₀ .tc) α} :
    iprop(records m K ∗ levAts L lv ∗ inFlight c k ∗ owing c ((cell (yp c) k 3, N) :: l))
      ⊢ iprop(((passedOn m c k ∗ owing c l) -∗ run c Q (kt ⟨⟩))
          -∗ run c Q (.op w fun _ => .op w' fun _ =>
            .op (.load sM (Rect.unit (s := S256x256) off S64x256.size inb).toLoadRect ld₁) fun a =>
            .op (.load rM (Rect.unit (s := S256x256) off S64x256.size inb).toLoadRect ld₂) fun b =>
            .op (.load oM (Rect.unit (s := S256x512) off' S64x256.size inb').toLoadRect ld₃) fun _ =>
            .op (.store oM (Rect.unit (s := S256x512) off' S64x256.size inb') (pay a b) Finset.univ stx stm) fun _ =>
            .op (.enqueueDma src (.remote (Dev.tc n : Thread nD τ) dst (.dma q) hsc) (.dma q') hsrc hdst hsem) kt)) := by
  subst hoff hoff'
  unfold inFlight passedOn tail
  iintro ⟨#HR, #Hlev, ⟨Hc0, ⟨%f, Ho⟩, Hy, Ht2, Ht3, ⟨Ha0, Ha1, Ha2, Ha3⟩, Hc1, Hc3⟩, HO⟩ Hk
  iapply (wait_cell m K c k 0 hw ((cell (yp c) k 3, N) :: l) (fun p hp => ⟨(hl p hp).1, by rw [lv_cell]; exact Nat.lt_of_le_of_lt (Nat.zero_le 2) (hl p hp).2⟩)) $$ [Hc0 HO Ha0]
  · isplitr; · iexact HR
    isplitr; · iexact Hlev
    isplitl [Hc0]; · iexact Hc0
    isplitl [HO]; · iexact HO
    iexact Ha0
  iintro ⟨HO, Ha0, Hs⟩
  iapply (wait_cell m K c k 1 hw' ((cell (yp c) k 3, N) :: l) (fun p hp => ⟨(hl p hp).1, by rw [lv_cell]; exact (hl p hp).2⟩)) $$ [Hc1 HO Ha1]
  · isplitr; · iexact HR
    isplitr; · iexact Hlev
    isplitl [Hc1]; · iexact Hc1
    isplitl [HO]; · iexact HO
    iexact Ha1
  iintro ⟨HO, Ha1, Hr⟩
  unfold bandPay sPt rPt oPt
  iapply (wp_load 𝒱₀ (c : Thread nD τ) none Set.univ (m := sM) (S := (sB k).view.set) (by exact le_of_eq (View.set_slice sM.view (band k)).symm)) $$ Hs; iintro Hs
  iapply (wp_load 𝒱₀ (c : Thread nD τ) none Set.univ (m := rM) (S := (rB k).view.set) (by exact le_of_eq (View.set_slice rM.view (band k)).symm)) $$ Hr; iintro Hr
  iapply (wp_load 𝒱₀ (c : Thread nD τ) none Set.univ (m := oM) (S := (oB k c).view.set) (by exact le_of_eq (View.set_slice oM.view (tile k c)).symm)) $$ Ho; iintro Ho
  rw [hpay]
  iapply (wp_store 𝒱₀ (c : Thread nD τ) none Set.univ (m := oM) (r := tile k c) (Mk := Finset.univ) (S := (oB k c).view.set) (by exact le_of_eq rfl)) $$ Ho; iintro Ho
  ihave Ho' := (Entails.of_eq (show _ = oPt c c k (ov m c) from pointsTo_congr fun i hi => summed_tile m k c f i hi)) $$ Ho
  iapply (send_tile m K c n k hn hs hd hq hq' l) $$ [Ho' Hy HO Ht2 Ht3]
  · isplitr; · iexact HR
    isplitl [Ho']; · iexact Ho'
    isplitl [Hy]; · unfold oPt; iexact Hy
    isplitl [HO]; · iexact HO
    isplitl [Ht2]; · iexact Ht2
    iexact Ht3
  iintro ⟨Hc2, HO⟩
  iapply Hk
  isplitr [HO]
  · isplitl [Hs]; · iexact Hs
    isplitl [Hr]; · iexact Hr
    isplitl [Hc2]; · iexact Hc2
    isplitl [Hc3]; · iexact Hc3
    isplitl [Ha0]; · iexact Ha0
    isplitl [Ha1]; · iexact Ha1
    isplitl [Ha2]; · iexact Ha2
    iexact Ha3
  iexact HO

/-! ## A band's first transfer started, and its second awaited -/

theorem launch_band (c n : Dev nD) (k : Fin 4) (hn : n = xp c) {src dst : Memref sig .tc .vmem S64x256 .bf16} {q q' : DmaSem sig}
    (hs : src = sB k) (hd : dst = rB k) (hq : q = tsem k 0) (hq' : q' = tsem k 1)
    {hsc : dst.view.ref.isScScratch = false} {hsrc : src.view.WordExact} {hdst : dst.view.WordExact}
    {hsem : DmaTarget.Typed .vmem (.dma q') (.remote (Dev.tc n : Thread nD τ) dst (.dma q) hsc)}
    (l : List (GSem nD τ sig × ℕ)) {α : Type} {Q : α → sProp 𝕄} {kt : PUnit → Prog (TpuEff nD τ sig (Elt F) Λ₀ .tc) α} :
    iprop(records m K ∗ ready m c k ∗ owing c ((cell (xp c) k 1, N) :: l))
      ⊢ iprop(((inFlight c k ∗ owing c l) -∗ run c Q (kt ⟨⟩))
          -∗ run c Q (.op (.enqueueDma src (.remote (Dev.tc n : Thread nD τ) dst (.dma q) hsc) (.dma q') hsrc hdst hsem) kt)) := by
  unfold ready inFlight
  iintro ⟨#HR, ⟨Hs, Hr, Ht0, Ht1, Htail⟩, HO⟩ Hk
  iapply (send_band m K c n k hn hs hd hq hq' l) $$ [Hs Hr HO Ht0 Ht1]
  · isplitr; · iexact HR
    isplitl [Hs]; · iexact Hs
    isplitl [Hr]; · iexact Hr
    isplitl [HO]; · iexact HO
    isplitl [Ht0]; · iexact Ht0
    iexact Ht1
  iintro ⟨Hc, HO⟩
  iapply Hk
  isplitr [HO]
  · isplitl [Hc]; · iexact Hc
    iexact Htail
  iexact HO

theorem finish_band (c : Dev nD) (k : Fin 4) {w w' : TpuEff nD τ sig (Elt F) Λ₀ .tc PUnit} (hw : Waits' c k 2 w) (hw' : Waits' c k 3 w')
    {α : Type} {Q : α → sProp 𝕄} {kt : PUnit → Prog (TpuEff nD τ sig (Elt F) Λ₀ .tc) α} :
    iprop(records m K ∗ levAts L lv ∗ passedOn m c k ∗ owing c [])
      ⊢ iprop(((finished m c k ∗ owing c []) -∗ run c Q (kt ⟨⟩)) -∗ run c Q (.op w fun _ => .op w' kt)) := by
  unfold passedOn finished
  iintro ⟨#HR, #Hlev, ⟨Hs, Hr, Hc2, Hc3, Ha0, Ha1, Ha2, Ha3⟩, HO⟩ Hk
  iapply (wait_cell m K c k 2 hw [] (fun p hp => absurd hp List.not_mem_nil)) $$ [Hc2 HO Ha2]
  · isplitr; · iexact HR
    isplitr; · iexact Hlev
    isplitl [Hc2]; · iexact Hc2
    isplitl [HO]; · iexact HO
    iexact Ha2
  iintro ⟨HO, Ha2, Ho⟩
  iapply (wait_cell m K c k 3 hw' [] (fun p hp => absurd hp List.not_mem_nil)) $$ [Hc3 HO Ha3]
  · isplitr; · iexact HR
    isplitr; · iexact Hlev
    isplitl [Hc3]; · iexact Hc3
    isplitl [HO]; · iexact HO
    iexact Ha3
  iintro ⟨HO, Ha3, Ho'⟩
  ihave Ho := (Entails.of_eq (show bandPay m c k 2 = oPt c c k (ov m c) from rfl)) $$ Ho
  ihave Ho' := (Entails.of_eq (show bandPay m c k 3 = oPt c (yp c) k (ov m c) from rfl)) $$ Ho'
  imod (close_cell m K (c, some (k, 0))) $$ [Ha0] with Hz0
  · isplitr; · iexact HR
    iexact Ha0
  imod (close_cell m K (c, some (k, 1))) $$ [Ha1] with Hz1
  · isplitr; · iexact HR
    iexact Ha1
  imod (close_cell m K (c, some (k, 2))) $$ [Ha2] with Hz2
  · isplitr; · iexact HR
    iexact Ha2
  imod (close_cell m K (c, some (k, 3))) $$ [Ha3] with Hz3
  · isplitr; · iexact HR
    iexact Ha3
  iapply Hk
  isplitr [HO]
  · isplitl [Hs]; · iexact Hs
    isplitl [Hr]; · iexact Hr
    isplitl [Ho]; · iexact Ho
    isplitl [Ho']; · iexact Ho'
    isplitl [Hz0]; · iexact Hz0
    isplitl [Hz1]; · iexact Hz1
    isplitl [Hz2]; · iexact Hz2
    iexact Hz3
  iexact HO

end Cert.KernelIdeal.Halves

end
-- ==== Proof.Ideal.Parts.lean ====
/-
A device's holdings cut into bands: the two scratch buffers, the halves of the result, and with the tokens and
positions of each band what the band needs to be sent; and back, when all bands are done.
-/
module

public import proofs.«01_k».proof.Proof.Ideal.Steps

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Buffers -/

omit [FloatOps F] in
theorem band_set_s (k : Fin 4) : (sB k).view.set = (band k).set := View.set_slice_whole _ _
omit [FloatOps F] in
theorem band_set_r (k : Fin 4) : (rB k).view.set = (band k).set := View.set_slice_whole _ _
omit [FloatOps F] in
theorem tile_set (k : Fin 4) (c : Dev nD) : (oB k c).view.set = (tile k c).set := View.set_slice_whole _ _

theorem send_bands (c : Dev nD) (f : Buf (Elt F) ((c : Thread nD τ).loc cc0_scratch0)) :
    (((c : Thread nD τ).loc cc0_scratch0) ↦{fullShare} f : sProp 𝕄) = bigSep Finset.univ fun k => sPt c k f := by
  rw [Ring.pointsTo_blocks (ℓ := (c : Thread nD τ).loc cc0_scratch0) (fun k => (band k).set) bands_disjoint bands_cover f]
  exact bigSep_congr fun k _ => by unfold sPt; rw [band_set_s]
theorem recv_bands (c : Dev nD) (f : Buf (Elt F) ((c : Thread nD τ).loc cc0_scratch1)) :
    (((c : Thread nD τ).loc cc0_scratch1) ↦{fullShare} f : sProp 𝕄) = bigSep Finset.univ fun k => rPt c k f := by
  rw [Ring.pointsTo_blocks (ℓ := (c : Thread nD τ).loc cc0_scratch1) (fun k => (band k).set) bands_disjoint bands_cover f]
  exact bigSep_congr fun k _ => by unfold rPt; rw [band_set_r]
theorem half_tiles (c d : Dev nD) (f : Buf (Elt F) ((c : Thread nD τ).loc cc0_stg1_0)) :
    (((c : Thread nD τ).loc cc0_stg1_0) ↦[half d]{fullShare} f : sProp 𝕄) = bigSep Finset.univ fun k => oPt c d k f := by
  unfold half
  rw [pointsTo_biUnion (ℓ := (c : Thread nD τ).loc cc0_stg1_0) Finset.univ (fun k => (tile k d).set) (fun k _ k' _ h => tiles_disjoint d k k' h)]
  exact bigSep_congr fun k _ => by unfold oPt; rw [tile_set]
theorem out_halves (c : Dev nD) (f : Buf (Elt F) ((c : Thread nD τ).loc cc0_stg1_0)) :
    (((c : Thread nD τ).loc cc0_stg1_0) ↦{fullShare} f : sProp 𝕄)
      ⊣⊢ iprop((((c : Thread nD τ).loc cc0_stg1_0) ↦[half c]{fullShare} f) ∗ ((c : Thread nD τ).loc cc0_stg1_0) ↦[half (yp c)]{fullShare} f) := by
  have h := pointsTo_union (ℓ := (c : Thread nD τ).loc cc0_stg1_0) (q := fullShare) (f := f) (Ix := Unit) (Name := ℕ) (U := UU) (Lvl := ℕ) (halves_disjoint c)
  rwa [halves_cover] at h

theorem rWhole_bands (c : Dev nD) : rWhole c ⊢ (bigSep Finset.univ fun k => iprop(∃ f, rPt c k f) : sProp 𝕄) := by
  unfold rWhole
  iintro ⟨%f, H⟩
  iapply ((Entails.of_eq (recv_bands c f)).trans (bigSep_mono fun k _ => exists_intro (Φ := fun f => rPt c k f) f))
  iexact H
theorem oHalf_tiles (c d : Dev nD) : oHalf c d ⊢ (bigSep Finset.univ fun k => iprop(∃ f, oPt c d k f) : sProp 𝕄) := by
  unfold oHalf
  iintro ⟨%f, H⟩
  iapply ((Entails.of_eq (half_tiles c d f)).trans (bigSep_mono fun k _ => exists_intro (Φ := fun f => oPt c d k f) f))
  iexact H

/-! ## Bands -/

/-- The tokens a device pays with for a band, and its positions at its own cells of that band. -/
def bandToks (c : Dev nD) (k : Fin 4) : sProp 𝕄 :=
  iprop(dutyTok ER (cell c k 0) 0 false ∗ dutyTok ER (cell (xp c) k 1) 0 false ∗ dutyTok ER (cell c k 2) 0 false ∗ dutyTok ER (cell (yp c) k 3) 0 false)
def bandAts (c : Dev nD) (k : Fin 4) : sProp 𝕄 :=
  iprop(atPos ER (cell c k 0) 0 ∅ 0 ∗ atPos ER (cell c k 1) 0 ∅ 0 ∗ atPos ER (cell c k 2) 0 ∅ 0 ∗ atPos ER (cell c k 3) 0 ∅ 0)
def bandCreds (c : Dev nD) (k : Fin 4) : sProp 𝕄 :=
  iprop(cred (tallyAt (cell c k 1) () N) ∗ cred (tallyAt (cell c k 3) () N))

theorem band_ready (c : Dev nD) (k : Fin 4) :
    iprop(sPt c k (sv m c) ∗ (∃ f, rPt (xp c) k f) ∗ (∃ f, oPt c c k f) ∗ (∃ f, oPt (yp c) c k f) ∗ bandToks c k ∗ bandAts c k ∗ bandCreds c k)
      ⊢ ready m c k := by
  unfold ready tail bandToks bandAts bandCreds
  iintro ⟨Hs, Hr, Ho, Hy, ⟨H0, H1, H2, H3⟩, Ha, Hc⟩
  isplitl [Hs]; · iexact Hs
  isplitl [Hr]; · iexact Hr
  isplitl [H0]; · iexact H0
  isplitl [H1]; · iexact H1
  isplitl [Ho]; · iexact Ho
  isplitl [Hy]; · iexact Hy
  isplitl [H2]; · iexact H2
  isplitl [H3]; · iexact H3
  isplitl [Ha]; · iexact Ha
  iexact Hc

/-- Once both partners have handed over their buffers, every band is ready. -/
theorem all_ready (c : Dev nD) :
    iprop((((c : Thread nD τ).loc cc0_scratch0) ↦{fullShare} sv m c) ∗ rWhole (xp c) ∗ oHalf c c ∗ oHalf (yp c) c
        ∗ (bigSep Finset.univ fun k => bandToks c k) ∗ (bigSep Finset.univ fun k => bandAts c k) ∗ bigSep Finset.univ fun k => bandCreds c k)
      ⊢ bigSep Finset.univ (ready m c) := by
  iintro ⟨Hs, Hr, Ho, Hy, Ht, Ha, Hc⟩
  ihave Hs := (Entails.of_eq (send_bands c (sv m c))) $$ Hs
  ihave Hr := (rWhole_bands (xp c)) $$ Hr
  ihave Ho := (oHalf_tiles c c) $$ Ho
  ihave Hy := (oHalf_tiles (yp c) c) $$ Hy
  iapply (show iprop((bigSep Finset.univ fun k => sPt c k (sv m c)) ∗ (bigSep Finset.univ fun k => iprop(∃ f, rPt (xp c) k f))
      ∗ (bigSep Finset.univ fun k => iprop(∃ f, oPt c c k f)) ∗ (bigSep Finset.univ fun k => iprop(∃ f, oPt (yp c) c k f))
      ∗ (bigSep Finset.univ fun k => bandToks c k) ∗ (bigSep Finset.univ fun k => bandAts c k) ∗ bigSep Finset.univ fun k => bandCreds c k)
      ⊢ bigSep Finset.univ (ready m c) from by
    rw [← bigSep_sep', ← bigSep_sep', ← bigSep_sep', ← bigSep_sep', ← bigSep_sep', ← bigSep_sep']
    exact bigSep_mono fun k _ => band_ready m c k)
  isplitl [Hs]; · iexact Hs
  isplitl [Hr]; · iexact Hr
  isplitl [Ho]; · iexact Ho
  isplitl [Hy]; · iexact Hy
  isplitl [Ht]; · iexact Ht
  isplitl [Ha]; · iexact Ha
  iexact Hc

/-- All the transfer cells of a device closed at zero. -/
def closed (c : Dev nD) : sProp 𝕄 := bigSep Finset.univ fun p : Fin 4 × Fin 4 => semVal (cell c p.1 p.2) 0

/-- When every band is finished, the buffers are whole again: the send buffer with the own block, the receive buffer
    with the partner's, the result complete. -/
theorem all_finished (c : Dev nD) :
    bigSep Finset.univ (finished m c)
      ⊢ iprop((((c : Thread nD τ).loc cc0_scratch0) ↦{fullShare} sv m c) ∗ (((c : Thread nD τ).loc cc0_scratch1) ↦{fullShare} rv m c)
        ∗ (((c : Thread nD τ).loc cc0_stg1_0) ↦{fullShare} ov m c) ∗ closed c) := by
  refine (show bigSep Finset.univ (finished m c) ⊢ iprop((bigSep Finset.univ fun k => sPt c k (sv m c)) ∗ (bigSep Finset.univ fun k => rPt c k (rv m c))
      ∗ (bigSep Finset.univ fun k => oPt c c k (ov m c)) ∗ (bigSep Finset.univ fun k => oPt c (yp c) k (ov m c))
      ∗ bigSep Finset.univ fun k => bigSep Finset.univ fun j => semVal (cell c k j) 0) from by
    rw [← bigSep_sep', ← bigSep_sep', ← bigSep_sep', ← bigSep_sep']
    refine bigSep_mono fun k _ => ?_
    rw [bigSep_four]
    exact Entails.refl _).trans ?_
  iintro ⟨Hs, Hr, Ho, Hy, Hz⟩
  ihave Ho := (Entails.of_eq (half_tiles c c (ov m c)).symm) $$ Ho
  ihave Hy := (Entails.of_eq (half_tiles c (yp c) (ov m c)).symm) $$ Hy
  isplitl [Hs]; · iapply (Entails.of_eq (send_bands c (sv m c)).symm); iexact Hs
  isplitl [Hr]; · iapply (Entails.of_eq (recv_bands c (rv m c)).symm); iexact Hr
  isplitl [Ho Hy]
  · iapply (out_halves c (ov m c)).2
    isplitl [Ho]; · iexact Ho
    iexact Hy
  · iapply (Entails.of_eq (show (bigSep Finset.univ fun k : Fin 4 => bigSep Finset.univ fun j : Fin 4 => (semVal (cell c k j) 0 : sProp 𝕄)) = closed c from by
      unfold closed; exact (bigSep_univ_prod (fun p : Fin 4 × Fin 4 => (semVal (cell c p.1 p.2) 0 : sProp 𝕄))).symm))
    iexact Hz

end Cert.KernelIdeal.Halves

end
-- ==== Proof.Ideal.Body.lean ====
/-
The kernel's body on one device, from what the launch hands it to its result: both partners told and heard, the
block copied and sent off band by band, each band summed on receipt and sent on, and everything awaited.
-/
module

public import proofs.«01_k».proof.Proof.Ideal.Parts

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)
variable (K : Dev nD × Option (Fin 4 × Fin 4) → ℕ)

/-- What is a device's alone at the start: its positions, and the tokens it pays with. -/
def linear (c : Dev nD) : sProp 𝕄 :=
  iprop(atPos ER (barCell c) 0 ∅ 0 ∗ dutyTok ER (barCell (xp c)) 0 false ∗ dutyTok ER (barCell (yp c)) 0 true
    ∗ (bigSep Finset.univ fun k => bandToks c k) ∗ bigSep Finset.univ fun k => bandAts c k)

/-- What the body leaves. -/
def leaves (c : Dev nD) : sProp 𝕄 :=
  iprop((((c : Thread nD τ).loc cc0_stg0_0) ↦{fullShare} xs m c) ∗ (((c : Thread nD τ).loc cc0_scratch0) ↦{fullShare} sv m c)
    ∗ (((c : Thread nD τ).loc cc0_scratch1) ↦{fullShare} rv m c) ∗ (((c : Thread nD τ).loc cc0_stg1_0) ↦{fullShare} ov m c)
    ∗ closed c ∗ semVal (barCell c) 0 ∗ owing c [])

set_option maxHeartbeats 3200000 in
theorem body_run (c : Dev nD) (Q : PUnit → sProp 𝕄) :
    iprop((records m K ∗ levAts L lv ∗ linear c ∗ cred (tallyAt (barCell c) () 2) ∗ (bigSep Finset.univ fun k => bandCreds c k)
        ∗ (∃ f : Buf (Elt F) ((c : Thread nD τ).loc cc0_scratch0), ((c : Thread nD τ).loc cc0_scratch0) ↦{fullShare} f) ∗ rWhole c
        ∗ owing c (owed₀ c) ∗ (((c : Thread nD τ).loc cc0_stg0_0) ↦{fullShare} xs m c)
        ∗ (∃ f : Buf (Elt F) ((c : Thread nD τ).loc cc0_stg1_0), ((c : Thread nD τ).loc cc0_stg1_0) ↦{fullShare} f))
        ∗ (leaves m c -∗ Q ⟨⟩))
      ⊢ run c Q (cc0_body xM (Memref.isWhole_whole _) oM (Memref.isWhole_whole _) sM (Memref.isWhole_whole _) rM (Memref.isWhole_whole _)
          cc0_scratch2 cc0_scratch3 cc0_scratch4 cc0_scratch5) := by
  unfold run
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  simp only [devX c (k0_dev1_eq c), devY c (k0_dev2_eq c)]
  unfold linear
  iintro ⟨⟨#HR, #Hlev, ⟨HaB, HtX, HtY, Ht, Ha⟩, HcB, Hc, ⟨%fs, Hs⟩, Hr, HO, Hx, ⟨%fo, Ho⟩⟩, Hk⟩
  -- the result's two halves: the own one to fill, the other for the partner to fill
  ihave Ho := (out_halves c fo).1 $$ Ho
  icases Ho with ⟨Hown, Hoth⟩
  unfold owing owed₀
  icases HO with ⟨%W, HO⟩
  -- the partner across the first axis hears, with the receive buffer
  iapply (Rounds.wp_signal 𝒱₀ ER (plan m) (c : Thread nD τ) none (dst := (xp c : Thread nD τ)) (κ := K (xp c, none))
      (d := false) (bar_duty m (xp c) false) (show 1 = _ by decide) () (debts ((barCell (yp c), 1) :: (owedFrom (xp c) 1 [0, 1, 2, 3] ++ owedFrom (yp c) 3 [0, 1, 2, 3]))) rfl)
    $$ [HO HtX Hr]
  · isplitr; · iapply (records_inv m K (xp c, none)); iexact HR
    isplitl [HO]; · iexact HO
    isplitl [HtX]; · iexact HtX
    isplitl [Hr]
    · iapply (Entails.of_eq (show rWhole c = (plan m).payload (barCell (xp c)) 0 false from by
        show _ = rWhole (xp (xp c)); rw [xp_xp]))
      iexact Hr
    iapply (records_reached m K (xp c, none)); iexact HR
  iintro HO
  -- the partner across the second, with its half of the result
  iapply (Rounds.wp_signal 𝒱₀ ER (plan m) (c : Thread nD τ) none (dst := (yp c : Thread nD τ)) (κ := K (yp c, none))
      (d := true) (bar_duty m (yp c) true) (show 1 = _ by decide) () (debts (owedFrom (xp c) 1 [0, 1, 2, 3] ++ owedFrom (yp c) 3 [0, 1, 2, 3])) rfl)
    $$ [HO HtY Hoth]
  · isplitr; · iapply (records_inv m K (yp c, none)); iexact HR
    isplitl [HO]; · iexact HO
    isplitl [HtY]; · iexact HtY
    isplitl [Hoth]
    · iapply (show oHalf c (yp c) ⊢ (plan m).payload (barCell (yp c)) 0 true from Entails.of_eq (by
        show _ = oHalf (yp (yp c)) (yp c); rw [yp_yp]))
      unfold oHalf; iexists fo; iexact Hoth
    iapply (records_reached m K (yp c, none)); iexact HR
  iintro HO
  -- both have been heard
  iapply (Rounds.wp_wait_rest_token 𝒱₀ ER (plan m) (c : Thread nD τ) none (κ := K (c, none))
      (wpE_semWait_eq 𝒱₀ (c : Thread nD τ) none Set.univ) (Set.mem_univ _) () (O := debts (owedFrom (xp c) 1 [0, 1, 2, 3] ++ owedFrom (yp c) 3 [0, 1, 2, 3]))
      (W := W) (R := 0) (m := 0) (T := ∅) (by rw [bar_expect]; decide)) $$ [HcB HO HaB]
  · isplitr; · iapply (records_inv m K (c, none)); iexact HR
    isplitl [HcB]; · iexact HcB
    isplitl [HO]; · iexact HO
    isplitr
    · iapply (may_wait c (.reg barS) (owedFrom (xp c) 1 [0, 1, 2, 3] ++ owedFrom (yp c) 3 [0, 1, 2, 3]) fun p hp => by
        rcases List.mem_append.mp hp with h | h
        · exact owedFrom_level (xp c) 1 _ 1 (fun k => by rw [lv_cell]; decide) p h
        · exact owedFrom_level (yp c) 3 _ 1 (fun k => by rw [lv_cell]; decide) p h)
      iexact Hlev
    iexact HaB
  iintro ⟨HO, HaB, -, Hpay⟩
  ihave Hp := (Entails.of_eq (bar_rest m c)) $$ Hpay
  icases Hp with ⟨Hr, Hy⟩
  imod (close_cell m K (c, none)) $$ [HaB] with HzB
  · isplitr; · iexact HR
    iexact HaB
  -- the block copied to the send buffer
  iapply (wp_load 𝒱₀ (c : Thread nD τ) none Set.univ (m := xM) (Finset.subset_univ _)) $$ Hx; iintro Hx
  rw [read_block]
  iapply (wp_load 𝒱₀ (c : Thread nD τ) none Set.univ (m := sM) (Finset.subset_univ _)) $$ Hs; iintro Hs
  iapply (wp_store 𝒱₀ (c : Thread nD τ) none Set.univ (m := sM) (r := whole256) (Mk := Finset.univ) (Finset.subset_univ _)) $$ Hs; iintro Hs
  rw [write_copy]
  ihave HB := (all_ready m c) $$ [Hs Hr Hown Hy Ht Ha Hc]
  · isplitl [Hs]; · iexact Hs
    isplitl [Hr]; · iexact Hr
    isplitl [Hown]; · unfold oHalf; iexists fo; iexact Hown
    isplitl [Hy]; · iexact Hy
    isplitl [Ht]; · iexact Ht
    isplitl [Ha]; · iexact Ha
    iexact Hc
  ihave HB := (Entails.of_eq (bigSep_four (ready m c))) $$ HB
  icases HB with ⟨B0, B1, B2, B3⟩
  ihave HO := (show owes (c : Thread nD τ) (debts (owedFrom (xp c) 1 [0, 1, 2, 3] ++ owedFrom (yp c) 3 [0, 1, 2, 3])) (insert (SemLoc.reg barS, ()) W)
      ⊢ owing c (owedFrom (xp c) 1 [0, 1, 2, 3] ++ owedFrom (yp c) 3 [0, 1, 2, 3]) from exists_intro (Φ := fun W => owes (c : Thread nD τ) (debts _) W) _) $$ HO
  -- every band sent off
  iapply (launch_band m K c _ 0 (devX c (k0_dev3_eq c) _) rfl rfl (tsem_eq 0 0) (tsem_eq 0 1) (owedFrom (xp c) 1 [1, 2, 3] ++ owedFrom (yp c) 3 [0, 1, 2, 3])) $$ [B0 HO]
  · isplitr; · iexact HR
    isplitl [B0]; · iexact B0
    iexact HO
  iintro ⟨B0, HO⟩
  iapply (launch_band m K c _ 1 (devX c (k0_dev4_eq c) _) rfl rfl (tsem_eq 1 0) (tsem_eq 1 1) (owedFrom (xp c) 1 [2, 3] ++ owedFrom (yp c) 3 [0, 1, 2, 3])) $$ [B1 HO]
  · isplitr; · iexact HR
    isplitl [B1]; · iexact B1
    iexact HO
  iintro ⟨B1, HO⟩
  iapply (launch_band m K c _ 2 (devX c (k0_dev5_eq c) _) rfl rfl (tsem_eq 2 0) (tsem_eq 2 1) (owedFrom (xp c) 1 [3] ++ owedFrom (yp c) 3 [0, 1, 2, 3])) $$ [B2 HO]
  · isplitr; · iexact HR
    isplitl [B2]; · iexact B2
    iexact HO
  iintro ⟨B2, HO⟩
  iapply (launch_band m K c _ 3 (devX c (k0_dev6_eq c) _) rfl rfl (tsem_eq 3 0) (tsem_eq 3 1) (owedFrom (xp c) 1 [] ++ owedFrom (yp c) 3 [0, 1, 2, 3])) $$ [B3 HO]
  · isplitr; · iexact HR
    isplitl [B3]; · iexact B3
    iexact HO
  iintro ⟨B3, HO⟩
  -- each received, summed and passed on
  iapply (forward_band m K c _ 0 (devY c (k0_dev7_eq c) _) (waits_of c 0 0 (tsem_eq 0 0) _ _) (waits_of c 0 1 (tsem_eq 0 1) _ _)
      (off := ![0, 0]) rfl (off' := k0_off1 c) (k0_off1_eq c) (pay := k0_pay2) (fun _ _ => rfl)
      (oB_of (k0_off2_eq c) _) (oB_of (k0_off2_eq c) _) (tsem_eq 0 2) (tsem_eq 0 3) (owedFrom (yp c) 3 [1, 2, 3])
      (owedFrom_level (yp c) 3 [0, 1, 2, 3] 2 fun k => by rw [lv_cell]; decide)) $$ [B0 HO]
  · isplitr; · iexact HR
    isplitr; · iexact Hlev
    isplitl [B0]; · iexact B0
    iexact HO
  iintro ⟨B0, HO⟩
  iapply (forward_band m K c _ 1 (devY c (k0_dev8_eq c) _) (waits_of c 1 0 (tsem_eq 1 0) _ _) (waits_of c 1 1 (tsem_eq 1 1) _ _)
      (off := ![64, 0]) rfl (off' := k0_off3 c) (k0_off3_eq c) (pay := k0_pay3) (fun _ _ => rfl)
      (oB_of (k0_off4_eq c) _) (oB_of (k0_off4_eq c) _) (tsem_eq 1 2) (tsem_eq 1 3) (owedFrom (yp c) 3 [2, 3])
      (owedFrom_level (yp c) 3 [1, 2, 3] 2 fun k => by rw [lv_cell]; decide)) $$ [B1 HO]
  · isplitr; · iexact HR
    isplitr; · iexact Hlev
    isplitl [B1]; · iexact B1
    iexact HO
  iintro ⟨B1, HO⟩
  iapply (forward_band m K c _ 2 (devY c (k0_dev9_eq c) _) (waits_of c 2 0 (tsem_eq 2 0) _ _) (waits_of c 2 1 (tsem_eq 2 1) _ _)
      (off := ![128, 0]) rfl (off' := k0_off5 c) (k0_off5_eq c) (pay := k0_pay4) (fun _ _ => rfl)
      (oB_of (k0_off6_eq c) _) (oB_of (k0_off6_eq c) _) (tsem_eq 2 2) (tsem_eq 2 3) (owedFrom (yp c) 3 [3])
      (owedFrom_level (yp c) 3 [2, 3] 2 fun k => by rw [lv_cell]; decide)) $$ [B2 HO]
  · isplitr; · iexact HR
    isplitr; · iexact Hlev
    isplitl [B2]; · iexact B2
    iexact HO
  iintro ⟨B2, HO⟩
  iapply (forward_band m K c _ 3 (devY c (k0_dev10_eq c) _) (waits_of c 3 0 (tsem_eq 3 0) _ _) (waits_of c 3 1 (tsem_eq 3 1) _ _)
      (off := ![192, 0]) rfl (off' := k0_off7 c) (k0_off7_eq c) (pay := k0_pay5) (fun _ _ => rfl)
      (oB_of (k0_off8_eq c) _) (oB_of (k0_off8_eq c) _) (tsem_eq 3 2) (tsem_eq 3 3) (owedFrom (yp c) 3 [])
      (owedFrom_level (yp c) 3 [3] 2 fun k => by rw [lv_cell]; decide)) $$ [B3 HO]
  · isplitr; · iexact HR
    isplitr; · iexact Hlev
    isplitl [B3]; · iexact B3
    iexact HO
  iintro ⟨B3, HO⟩
  -- each received again
  iapply (finish_band m K c 0 (waits_of c 0 2 (tsem_eq 0 2) _ _) (waits_of c 0 3 (tsem_eq 0 3) _ _)) $$ [B0 HO]
  · isplitr; · iexact HR
    isplitr; · iexact Hlev
    isplitl [B0]; · iexact B0
    iexact HO
  iintro ⟨B0, HO⟩
  iapply (finish_band m K c 1 (waits_of c 1 2 (tsem_eq 1 2) _ _) (waits_of c 1 3 (tsem_eq 1 3) _ _)) $$ [B1 HO]
  · isplitr; · iexact HR
    isplitr; · iexact Hlev
    isplitl [B1]; · iexact B1
    iexact HO
  iintro ⟨B1, HO⟩
  iapply (finish_band m K c 2 (waits_of c 2 2 (tsem_eq 2 2) _ _) (waits_of c 2 3 (tsem_eq 2 3) _ _)) $$ [B2 HO]
  · isplitr; · iexact HR
    isplitr; · iexact Hlev
    isplitl [B2]; · iexact B2
    iexact HO
  iintro ⟨B2, HO⟩
  iapply (finish_band m K c 3 (waits_of c 3 2 (tsem_eq 3 2) _ _) (waits_of c 3 3 (tsem_eq 3 3) _ _)) $$ [B3 HO]
  · isplitr; · iexact HR
    isplitr; · iexact Hlev
    isplitl [B3]; · iexact B3
    iexact HO
  iintro ⟨B3, HO⟩
  unfold run; rw [wp_ret]; imodintro
  iapply Hk
  ihave HB := (Entails.of_eq (bigSep_four (finished m c)).symm) $$ [B0 B1 B2 B3]
  · isplitl [B0]; · iexact B0
    isplitl [B1]; · iexact B1
    isplitl [B2]; · iexact B2
    iexact B3
  ihave HB := (all_finished m c) $$ HB
  icases HB with ⟨Hs, Hr, Ho, Hz⟩
  unfold leaves
  isplitl [Hx]; · iexact Hx
  isplitl [Hs]; · iexact Hs
  isplitl [Hr]; · iexact Hr
  isplitl [Ho]; · iexact Ho
  isplitl [Hz]; · iexact Hz
  isplitl [HzB]; · iexact HzB
  iexact HO

end Cert.KernelIdeal.Halves

end
-- ==== Proof.Ideal.Deal.lean ====
/-
What the launch deals out: the cells opened under their invariants, the tokens dealt to the devices that pay with
them, and the credits of what each device's cells will be paid.
-/
module

public import proofs.«01_k».proof.Proof.Ideal.Body

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (m : (ℓ : Loc nD τ sig) → Buf (Elt F) ℓ)

omit [FloatOps F] in
/-- A conjunction over an optional index: the part without, and the parts with. -/
theorem bigSep_optional {A : Type} [Fintype A] (Φ : Option A → sProp 𝕄) :
    bigSep Finset.univ Φ = iprop(Φ none ∗ bigSep Finset.univ fun a => Φ (some a)) := by
  rw [bigSep_univ_equiv (Equiv.optionEquivSumPUnit.{0} A).symm Φ, bigSep_univ_sum]
  refine (BI.equiv_iff.mp ⟨BI.sep_comm, BI.sep_comm⟩).trans ?_
  rw [bigSep_univ_eq_bigSepL [PUnit.unit] (by decide) (by decide)]
  rfl

omit [FloatOps F] in
/-- Two conjunctions over all indices may be taken in either order. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

/-! ## Cells and tokens at launch -/

def allCells : Finset (GSem nD τ sig) := Finset.univ.map ⟨kcell, kcell_injective⟩

/-- A device's own tokens: the barrier's two, and one for each transfer cell. -/
abbrev tokOf (cj : Dev nD × Option (Option (Fin 4 × Fin 4))) : GSem nD τ sig × ℕ × Bool := match cj.2 with
  | none => (barCell cj.1, 0, true)
  | some i => (kcell (cj.1, i), 0, false)
theorem tokOf_injective : Function.Injective tokOf := by
  rintro ⟨c, i⟩ ⟨c', i'⟩ h
  match i, i', h with
  | none, none, h =>
    have h1 : c = c' := congrArg Prod.fst (kcell_injective (a₁ := (c, none)) (a₂ := (c', none)) (congrArg Prod.fst h))
    rw [h1]
  | none, some _, h => exact Bool.noConfusion (show true = false from congrArg (fun x => x.2.2) h)
  | some _, none, h => exact Bool.noConfusion (show false = true from congrArg (fun x => x.2.2) h)
  | some i, some i', h =>
    have h1 := kcell_injective (a₁ := (c, i)) (a₂ := (c', i')) (congrArg Prod.fst h)
    have hc : c = c' := congrArg Prod.fst h1
    have hi : i = i' := congrArg Prod.snd h1
    rw [hc, hi]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of one band's four cells of one device; -/
def minted (c : Dev nD) (k : Fin 4) : sProp 𝕄 :=
  iprop(dutyTok ER (cell c k 0) 0 false ∗ dutyTok ER (cell c k 1) 0 false ∗ dutyTok ER (cell c k 2) 0 false ∗ dutyTok ER (cell c k 3) 0 false)
/-- all those of its own cells. -/
def ownToks (c : Dev nD) : sProp 𝕄 :=
  iprop(dutyTok ER (barCell c) 0 true ∗ dutyTok ER (barCell c) 0 false ∗ bigSep Finset.univ fun k => minted c k)

/-- What the launch element gives a device, -/
def G (c : Dev nD) : sProp 𝕄 :=
  iprop((bigSep Finset.univ fun i => roundState ER (plan m) (kcell (c, i)) 0)
    ∗ (bigSep Finset.univ fun i => iprop(atPos ER (kcell (c, i)) 0 ∅ 0 ∗ reached ER (kcell (c, i)) 0)) ∗ ownToks c)
/-- and what it has when the cells are open and the tokens dealt. -/
def G' (c : Dev nD) : sProp 𝕄 := iprop(∃ K, records m K ∗ linear c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_optional, bigSep_optional, bigSep_univ_prod]
    unfold ownToks minted
    rw [bigSep_congr (s := Finset.univ) fun (k : Fin 4) _ => bigSep_four _]
    rfl
  iintro HX
  imod (Rounds.fund ER (plan m) allCells allToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Opening the cells -/

theorem unscoped_bar (c : Dev nD) : (unscopedSems0 c : sProp 𝕄) = semVal (barCell c) 0 := by
  unfold unscopedSems0; rw [bigSep_eq_bigSepL_of_eq [SemLoc.reg barS] (by decide) (by decide)]; rfl

/-- One device's counters and round states become its cells' invariants. -/
theorem open_cells (c : Dev nD) :
    iprop(closed c ∗ unscopedSems0 c ∗ G m c)
      ⊢ |={Set.univ}=> iprop((bigSep Finset.univ fun i => iprop(∃ κ : ℕ, cellInv ER (plan m) κ (kcell (c, i))))
          ∗ (bigSep Finset.univ fun i => iprop(atPos ER (kcell (c, i)) 0 ∅ 0 ∗ reached ER (kcell (c, i)) 0)) ∗ ownToks c) := by
  have hz : iprop((unscopedSems0 c : sProp 𝕄) ∗ closed c) = bigSep Finset.univ fun i => semVal (kcell (c, i)) 0 := by
    rw [bigSep_optional, unscoped_bar]; rfl
  have hopen : iprop((bigSep Finset.univ fun i => semVal (kcell (c, i)) 0) ∗ bigSep Finset.univ fun i => roundState ER (plan m) (kcell (c, i)) 0)
      ⊢ (|={Set.univ}=> bigSep Finset.univ fun i => iprop(∃ κ : ℕ, cellInv ER (plan m) κ (kcell (c, i))) : sProp 𝕄) := by
    rw [← bigSep_sep']
    exact (bigSep_mono fun i _ => (Rounds.body_intro ER (plan m) (kcell (c, i))).trans inv_alloc).trans (bigSep_fupd _ _)
  unfold G
  iintro ⟨Hown, Hbar, Hst, Hat, Htok⟩
  ihave Hv := (Entails.of_eq hz) $$ [Hown Hbar]
  · isplitl [Hbar] <;> iassumption
  imod hopen $$ [Hv Hst] with Hinv
  · isplitl [Hv] <;> iassumption
  imodintro
  isplitl [Hinv]; · iexact Hinv
  isplitl [Hat]; · iexact Hat
  iexact Htok

/-! ## Dealing the tokens -/

/-- The tokens a device pays with. -/
def payToks (c : Dev nD) : sProp 𝕄 :=
  iprop(dutyTok ER (barCell (xp c)) 0 false ∗ dutyTok ER (barCell (yp c)) 0 true ∗ bigSep Finset.univ fun k => bandToks c k)

/-- The receipt tokens of a band go to the partners that send. -/
theorem deal_band (k : Fin 4) : (bigSep Finset.univ fun c : Dev nD => (minted c k : sProp 𝕄)) = bigSep Finset.univ fun c => bandToks c k := by
  unfold minted bandToks
  simp only [bigSep_sep']
  rw [bigSep_univ_equiv xEquiv (fun c : Dev nD => (dutyTok ER (cell c k 1) 0 false : sProp 𝕄)),
    bigSep_univ_equiv yEquiv (fun c : Dev nD => (dutyTok ER (cell c k 3) 0 false : sProp 𝕄))]
  rfl
theorem deal : (bigSep Finset.univ fun c : Dev nD => (ownToks c : sProp 𝕄)) ⊢ bigSep Finset.univ fun c => payToks c := by
  unfold ownToks payToks
  simp only [bigSep_sep']
  rw [bigSep_swap (fun (c : Dev nD) (k : Fin 4) => (minted c k : sProp 𝕄)), bigSep_congr (s := Finset.univ) fun (k : Fin 4) _ => deal_band k,
    ← bigSep_swap (fun (c : Dev nD) (k : Fin 4) => (bandToks c k : sProp 𝕄)),
    bigSep_univ_equiv xEquiv (fun c : Dev nD => (dutyTok ER (barCell c) 0 false : sProp 𝕄)),
    bigSep_univ_equiv yEquiv (fun c : Dev nD => (dutyTok ER (barCell c) 0 true : sProp 𝕄))]
  iintro ⟨Ht, Hf, Hb⟩
  isplitl [Hf]; · iexact Hf
  isplitl [Ht]; · iexact Ht
  iexact Hb

/-- A device's positions and the tokens it pays with are what is its alone. -/
theorem linear_intro (c : Dev nD) : iprop((bigSep Finset.univ fun i => atPos ER (kcell (c, i)) 0 ∅ 0) ∗ payToks c) ⊢ (linear c : sProp 𝕄) := by
  have h : (bigSep Finset.univ fun i => (atPos ER (kcell (c, i)) 0 ∅ 0 : sProp 𝕄)) = iprop(atPos ER (barCell c) 0 ∅ 0 ∗ bigSep Finset.univ fun k => bandAts c k) := by
    rw [bigSep_optional, bigSep_univ_prod]
    unfold bandAts
    rw [bigSep_congr (s := Finset.univ) fun (k : Fin 4) _ => bigSep_four _]
  rw [h]
  unfold linear payToks
  iintro ⟨⟨HB, Ha⟩, HX, HY, Ht⟩
  isplitl [HB]; · iexact HB
  isplitl [HX]; · iexact HX
  isplitl [HY]; · iexact HY
  isplitl [Ht]; · iexact Ht
  iexact Ha

theorem spread (K : Dev nD × Option (Fin 4 × Fin 4) → ℕ) :
    iprop(records m K ∗ bigSep (Finset.univ : Finset (Dev nD)) fun c => linear c) ⊢ bigSep Finset.univ (G' m) := by
  refine (sep_mono_left (BI.bigSep_of_persistent (Finset.univ : Finset (Dev nD)) (records m K))).trans ?_
  rw [← bigSep_sep']
  exact bigSep_mono fun c _ => exists_intro (Φ := fun K => iprop(records m K ∗ linear c)) K

/-- Every device's open cells together, with the tokens dealt. -/
theorem gather :
    (bigSep Finset.univ fun c : Dev nD => iprop((bigSep Finset.univ fun i => iprop(∃ κ : ℕ, cellInv ER (plan m) κ (kcell (c, i))))
          ∗ (bigSep Finset.univ fun i => iprop(atPos ER (kcell (c, i)) 0 ∅ 0 ∗ reached ER (kcell (c, i)) 0)) ∗ ownToks c) : sProp 𝕄)
      ⊢ bigSep Finset.univ (G' m) := by
  simp only [bigSep_sep']
  rw [← bigSep_univ_prod (fun ci : Dev nD × Option (Fin 4 × Fin 4) => iprop(∃ κ : ℕ, cellInv ER (plan m) κ (kcell ci))),
    ← bigSep_univ_prod (fun ci : Dev nD × Option (Fin 4 × Fin 4) => (reached ER (kcell ci) 0 : sProp 𝕄))]
  iintro ⟨HI, ⟨Hat, HR⟩, Htok⟩
  ihave HK := (BI.bigSep_exists_pi Finset.univ (fun (ci : Dev nD × Option (Fin 4 × Fin 4)) (κ : ℕ) => (cellInv ER (plan m) κ (kcell ci) : sProp 𝕄))) $$ HI
  icases HK with ⟨%K, HI⟩
  ihave Htok := (deal (F := F)) $$ Htok
  iapply (spread m K)
  isplitl [HI HR]
  · unfold records
    isplitl [HI] <;> iassumption
  · iapply ((Entails.of_eq (bigSep_sep' Finset.univ (fun c : Dev nD => bigSep Finset.univ fun i => (atPos ER (kcell (c, i)) 0 ∅ 0 : sProp 𝕄)) payToks).symm).trans
      (bigSep_mono fun c _ => linear_intro c))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (gather m))

/-! ## Credits -/

theorem tsem_eq_iff {k k' j j' : Fin 4} : tsem k j = tsem k' j' ↔ k = k' ∧ j = j' :=
  ⟨fun h => Prod.mk.inj (tsem_inj (p := (k, j)) (p' := (k', j')) h), fun ⟨h, h'⟩ => by rw [h, h']⟩
theorem bar_eq_iff {a b : Dev nD} : barCell a = barCell b ↔ a = b := by
  constructor
  · intro h
    exact congrArg Prod.fst (kcell_injective (a₁ := (a, none)) (a₂ := (b, none)) h)
  · rintro rfl; rfl
theorem bar_ne_cell {a b : Dev nD} {k j : Fin 4} : barCell a ≠ cell b k j := fun h => by cases congrArg Prod.snd h
theorem xp_eq_iff {c d : Dev nD} : xp d = c ↔ d = xp c := ⟨fun h => by rw [← h, xp_xp], fun h => by rw [h, xp_xp]⟩
theorem yp_eq_iff {c d : Dev nD} : yp d = c ↔ d = yp c := ⟨fun h => by rw [← h, yp_yp], fun h => by rw [h, yp_yp]⟩

theorem owes_bar (d c : Dev nD) : debts (owed₀ d) (barCell c) () = (if d = xp c then 1 else 0) + (if d = yp c then 1 else 0) := by
  rw [debts_apply]
  simp [owed₀, owedFrom, bar_eq_iff, xp_eq_iff, yp_eq_iff, bar_ne_cell.symm]
theorem owes_first (d c : Dev nD) (k : Fin 4) : debts (owed₀ d) (cell c k 1) () = if d = xp c then N else 0 := by
  rw [debts_apply]
  fin_cases k <;> simp [owed₀, owedFrom, tsem_eq_iff, xp_eq_iff, yp_eq_iff, bar_ne_cell]
theorem owes_second (d c : Dev nD) (k : Fin 4) : debts (owed₀ d) (cell c k 3) () = if d = yp c then N else 0 := by
  rw [debts_apply]
  fin_cases k <;> simp [owed₀, owedFrom, tsem_eq_iff, xp_eq_iff, yp_eq_iff, bar_ne_cell]

/-- A cell's credit at launch is what all devices together owe it. -/
theorem launch_credit (g : GSem nD τ sig) (n : ℕ) (h : ∑ d : Dev nD, debts (owed₀ d) g () = n) :
    tallyOn g (launchCredit (Pipeline.owing fun d => debts (owed₀ d)) 0 g) = (tallyAt g () n : CellTallies nD τ sig Unit) := by
  unfold tallyAt; refine congrArg _ (Finsupp.ext fun u => ?_); cases u
  rw [Pipeline.launchCredit_owing, h, Finsupp.single_eq_same]

theorem credits (c : Dev nD) :
    (Pipeline.launchCred (fun d => debts (owed₀ d)) c : sProp 𝕄)
      ⊢ iprop(cred (tallyAt (barCell c) () 2) ∗ bigSep Finset.univ fun k => bandCreds c k) := by
  have hb := launch_credit (barCell c) 2 (by
    rw [Finset.sum_congr rfl fun d _ => owes_bar d c, Finset.sum_add_distrib, Finset.sum_ite_eq' Finset.univ (xp c) fun _ => 1,
      Finset.sum_ite_eq' Finset.univ (yp c) fun _ => 1, if_pos (Finset.mem_univ _), if_pos (Finset.mem_univ _)])
  have h1 (k : Fin 4) := launch_credit (cell c k 1) N (by
    rw [Finset.sum_congr rfl fun d _ => owes_first d c k, Finset.sum_ite_eq' Finset.univ (xp c) fun _ => N, if_pos (Finset.mem_univ _)])
  have h3 (k : Fin 4) := launch_credit (cell c k 3) N (by
    rw [Finset.sum_congr rfl fun d _ => owes_second d c k, Finset.sum_ite_eq' Finset.univ (yp c) fun _ => N, if_pos (Finset.mem_univ _)])
  have hinj : Function.Injective csem := fun i i' h => congrArg Prod.snd (kcell_injective (a₁ := (c, i)) (a₂ := (c, i')) (Prod.ext rfl h))
  unfold Pipeline.launchCred
  refine (bigSep_subset (Finset.subset_univ (Finset.univ.map ⟨csem, hinj⟩))).trans ?_
  rw [bigSep_map, bigSep_optional, bigSep_univ_prod]
  refine BI.sep_mono (Entails.of_eq (congrArg cred hb)) (bigSep_mono fun k _ => ?_)
  rw [bigSep_four]
  have keep (A B C D : sProp 𝕄) : iprop(A ∗ B ∗ C ∗ D) ⊢ iprop(B ∗ D) := by
    iintro ⟨-, H1, -, H3⟩
    isplitl [H1] <;> iassumption
  exact (keep _ _ _ _).trans (BI.sep_mono (Entails.of_eq (congrArg cred (h1 k))) (Entails.of_eq (congrArg cred (h3 k))))

end Cert.KernelIdeal.Halves

end
-- ==== Proof.Ideal.Launch.lean ====
/-
The run of the whole program: from any memory with zero counters every fair execution ends, with the result of each
device as computed, its block of `x` as it was, and all counters at zero again.
-/
module

public import proofs.«01_k».proof.Proof.Ideal.Deal
public import Idealize.ShloMosaic.Lib.Pipeline.CollectiveSegs

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The launch memory: any contents, no counter raised. -/
def s₀ : MemSt nD τ sig (Elt F) := ⟨m, fun _ => 0, ρ⟩

/-! ## The body's obligation -/

/-- What a device's body starts from besides its buffers, -/
def start (c : Dev nD) : sProp 𝕄 :=
  iprop(G' m c ∗ cred (tallyAt (barCell c) () 2) ∗ (bigSep Finset.univ fun k => bandCreds c k) ∗ levAts L lv)
/-- with the scratch buffers, at any contents; -/
def Φ₀ (c : Dev nD) : sProp 𝕄 :=
  iprop(start m c ∗ (∃ f : Buf (Elt F) ((c : Thread nD τ).loc cc0_scratch0), ((c : Thread nD τ).loc cc0_scratch0) ↦{fullShare} f) ∗ rWhole c)
/-- and what it ends with. -/
def Φ₁ (c : Dev nD) : sProp 𝕄 :=
  iprop((((c : Thread nD τ).loc cc0_scratch0) ↦{fullShare} sv m c) ∗ (((c : Thread nD τ).loc cc0_scratch1) ↦{fullShare} rv m c)
    ∗ closed c ∗ semVal (barCell c) 0)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => ov m c
  Φ t := match t with
    | ⟨0, _⟩ => Φ₀ m c
    | ⟨_ + 1, _⟩ => Φ₁ m c
  q _ := fullShare
  owed t := match t with
    | ⟨0, _⟩ => debts (owed₀ c)
    | ⟨_ + 1, _⟩ => 0

/-- A staging buffer at contents equal to `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

def before (c : Dev nD) : sProp 𝕄 :=
  iprop(Φ₀ m c ∗ (dats m ρ 0 c).owesAt () (t0_0 : Fin cfg0.N).castSucc
    ∗ (∃ d, staged c cc0_stg0_0 ((dats m ρ 0 c).before (0 : Fin 2) t0_0 d)) ∗ (∃ d, staged c cc0_stg1_0 ((dats m ρ 0 c).before (1 : Fin 2) t0_0 d)))
def afterwards (c : Dev nD) : sProp 𝕄 :=
  iprop(Φ₁ m c ∗ (dats m ρ 0 c).owesAt () (t0_0 : Fin cfg0.N).succ ∗ staged c cc0_stg0_0 (xs m c) ∗ staged c cc0_stg1_0 (ov m c))

theorem ends (c : Dev nD) : leaves m c ⊢ afterwards m ρ c := by
  unfold leaves afterwards Φ₁ owing Pipeline.Dat.owesAt Pipeline.owesWithin
  rw [show (dats m ρ 0 c).owed (t0_0 : Fin cfg0.N).succ = debts [] from rfl]
  iintro ⟨Hx, Hs, Hr, Ho, Hz, HzB, ⟨%W, HO⟩⟩
  isplitl [Hs Hr Hz HzB]
  · isplitl [Hs]; · iexact Hs
    isplitl [Hr]; · iexact Hr
    isplitl [Hz] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxHeartbeats 1600000 in
theorem body_holds (c : Dev nD) : Pipeline.BodyObligation (dats (F := F) m ρ 0 c) (defs₀ (F := F)) 𝒱₀ () Set.univ := fun t => by
  rw [show t = t0_0 from fin_N0 t, bigSep_W0, bigSep_W0]
  simp only [owns_staged]
  show before m ρ c ⊢ run c (fun _ => afterwards m ρ c)
    (cc0_body xM (Memref.isWhole_whole _) oM (Memref.isWhole_whole _) sM (Memref.isWhole_whole _) rM (Memref.isWhole_whole _)
      cc0_scratch2 cc0_scratch3 cc0_scratch4 cc0_scratch5)
  unfold before Φ₀ start G' Pipeline.Dat.owesAt Pipeline.owesWithin
  rw [show (dats m ρ 0 c).owed (t0_0 : Fin cfg0.N).castSucc = debts (owed₀ c) from rfl]
  iintro ⟨⟨⟨⟨%K, HR, HL⟩, HcB, Hc, Hlev⟩, Hs, Hr⟩, ⟨%W, -, HO⟩, ⟨%d, %f, %hf, Hx⟩, ⟨%d', %f', -, Ho⟩⟩
  have hx : f = xs m c := by
    rw [hf]; unfold Pipeline.Dat.before; rw [if_pos (show (cfg0.win (0 : Fin 2)).fetch t0_0 = true from rfl)]; rfl
  subst hx
  iapply (body_run m K c fun _ => afterwards m ρ c)
  isplitl
  · isplitl [HR]; · iexact HR
    isplitl [Hlev]; · iexact Hlev
    isplitl [HL]; · iexact HL
    isplitl [HcB]; · iexact HcB
    isplitl [Hc]; · iexact Hc
    isplitl [Hs]; · iexact Hs
    isplitl [Hr]; · iexact Hr
    isplitl [HO]; · unfold owing; iexists W; iexact HO
    isplitl [Hx]; · iexact Hx
    iexists f'; iexact Ho
  · iintro H; iapply (ends m ρ c); iexact H

/-! ## The launch's side conditions -/

theorem ownSemFacts : Pipeline.OwnSemFacts cfg0.spec osem := by decide

theorem share_full (c : Dev nD) (w : Fin cfg0.W) : (dats m ρ 0 c).share w = fullShare := by unfold Pipeline.Dat.share; split <;> rfl

theorem owed₀_level (c : Dev nD) : ∀ p ∈ owed₀ c, L p.1 = {()} ∧ 0 < lv p.1 () := by
  intro p hp
  rcases List.mem_cons.mp hp with rfl | hp
  · exact ⟨L_on _ _, Nat.one_pos⟩
  rcases List.mem_cons.mp hp with rfl | hp
  · exact ⟨L_on _ _, Nat.one_pos⟩
  rcases List.mem_append.mp hp with hp | hp
  · exact owedFrom_level _ 1 _ 0 (fun k => by rw [lv_cell]; decide) p hp
  · exact owedFrom_level _ 3 _ 0 (fun k => by rw [lv_cell]; decide) p hp

/-- Staging waits lie below every debt. -/
theorem staging_waits (c : Dev nD) : (levAts L lv : sProp 𝕄) ⊢ Pipeline.cellsWaits cfgs (dats m ρ) () 0 c :=
  Pipeline.cellsWaits_intro cfgs (dats m ρ) () 0 c fun w s t => by
    have h0 : ∀ (w : Fin 2) (s : Fin (spec0 w).nbuf), lv ((c : Thread nD τ), .dma ((spec0 w).sem s)) () = 0 := by
      intro w s; fin_cases w <;> fin_cases s <;> rfl
    rcases t with ⟨_ | _, ht⟩
    · exact may_wait c _ (owed₀ c) fun p hp => ⟨(owed₀_level c p hp).1, lt_of_eq_of_lt (h0 w s) (owed₀_level c p hp).2⟩
    · exact may_wait c _ [] fun p hp => absurd hp List.not_mem_nil

theorem starts (c : Dev nD) :
    iprop(Pipeline.unscopedRestP Pipeline.Prefetch.none cfg0.spec c (fun b => m ((c : Thread nD τ).loc b)) ∗ levAts L lv
        ∗ Pipeline.launchCred (fun d => debts (owed₀ d)) c ∗ prngReg c (ρ c) ∗ G' m c)
      ⊢ |={Set.univ}=> iprop(start m c ∗ emp) := by
  iintro ⟨-, Hlev, Hcr, -, HG⟩
  ihave Hc := (credits (F := F) c) $$ Hcr
  icases Hc with ⟨HB, Hc⟩
  imodintro
  unfold start
  isplitl
  · isplitl [HG]; · iexact HG
    isplitl [HB]; · iexact HB
    isplitl [Hc] <;> iassumption
  · iempintro

theorem enters (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ rWhole
  iintro ⟨Hst, -, Hs, Hr⟩
  isplitl [Hst]; · iexact Hst
  isplitl [Hs] <;> iassumption

theorem leaves_region (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, unscoped_bar]
  unfold Φ₁
  iintro ⟨Hs, Hr, Hz, HzB⟩
  isplitl [HzB]; · iexact HzB
  isplitl [Hz]; · iapply (show closed c ⊢ Pipeline.ownSems0 osem c from Entails.of_eq rfl); iexact Hz
  isplitl [Hs]; · iexists _; iexact Hs
  iexists _; iexact Hr

/-! ## The run -/

/-- What a window's array holds when all is done. -/
def final (c : Dev nD) (w : Fin cfg0.W) : Buf (Elt F) ((cfg0.win w).arr.view.loc (c : Thread nD τ)) := (dats m ρ 0 c).arrAt w cfg0.N

def Done : PUnit × MemSt nD τ sig (Elt F) → Prop := fun r =>
  ∀ c : Dev nD, ∀ w : Fin cfg0.W, r.2.mem ((cfg0.win w).arr.view.loc (c : Thread nD τ)) = final m ρ c w

set_option maxRecDepth 16384 in
/-- For any float values, any launch memory with zero counters and any generator registers: every fair execution of
    the four devices ends, and ends with each window's array as computed and every counter at zero. -/
theorem runs : θ_run defs (onTc (τ := τ) (main (F := F))) (s₀ m ρ) (fun r => Done m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_holds m ρ) (hne := fun w => by fin_cases w <;> exact Nat.succ_pos _) (harr := arr_whole0) (hstage := stage_whole0) (hshare := share_full m ρ)
    (hdistinct := winFacts0.arr_inj)
    (O₀ := fun d => debts (owed₀ d)) (howed₀ := fun _ => rfl) (howedN := fun _ => rfl)
    (L := L) (lv := lv) (hL := L_off) (hwaits := staging_waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := starts m ρ) (hin := enters m ρ) (hout := leaves_region m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is as it was. -/
theorem final_x (c : Dev nD) : final m ρ c (0 : Fin 2) = (s₀ m ρ).mem (win0_0.arr.view.loc (c : Thread nD τ)) :=
  (dats (F := F) m ρ 0 c).arrAt_in (0 : Fin 2) rfl _

end Cert.KernelIdeal.Halves

end
-- ==== Proof.Ideal.Value.lean ====
/-
The result as the run leaves it, and its value at the exact instance: every device ends with the sum of the upper and
the lower half of the whole array, whichever device of a column added the two blocks.
-/
module

public import proofs.«01_k».proof.Proof.Ideal.Launch
public import proofs.«01_k».proof.Proof.Reference
public import Idealize.ShloMosaic.Lib.Layout

@[expose] public section

set_option maxRecDepth 16384

noncomputable section

namespace Cert.KernelIdeal.Halves

open Cert.KernelIdeal Cert.KernelIdeal.Gen
open Idealize.ShloMosaic Idealize.ShloMosaic.TcCoe
open Idealize.SL Idealize.SL.Sem
open Cert.ReferenceIdeal.Total (inHalf total)

section
variable {F : FTy → Type} [FloatOps F]
variable (m : (ℓ : Loc nD τ sig) → Buf (Elt F) ℓ) (ρ : Dev nD → PrngReg)

theorem at_origin {r : ℕ} (s : Fin r → ℕ) : (fun a => (fun _ : Fin r => 0) a * s a) = fun _ => 0 := funext fun a => Nat.zero_mul _

/-- The one write-back leaves the result array as the body left its buffer. -/
theorem final_o (c : Dev nD) : final m ρ c (1 : Fin 2) = ov m c := by
  unfold final
  rw [show cfg0.N = ((0 : Fin 1) : Fin cfg0.N).val + 1 from rfl, (dats m ρ 0 c).arrAt_succ (1 : Fin 2) (0 : Fin 1),
    if_pos (show (cfg0.win (1 : Fin 2)).flush (0 : Fin 1) = true from by decide)]
  exact Memref.write_access_unit_zero_univ (Elt F) main_v1 (at_origin _) _ _ _

/-- The staged block is the device's argument. -/
theorem xs_eq (c : Dev nD) : xs m c = m ((c : Thread nD τ).loc main_arg0) :=
  Memref.read_access_unit_zero (Elt F) main_arg0 (at_origin _) _ _

/-- The copy a device sends is its argument. -/
theorem sv_eq (c : Dev nD) : sv m c = m ((c : Thread nD τ).loc main_arg0) := by
  unfold sv k0_pay1
  dsimp only
  rw [shapeCast_self, shapeCast_self, xs_eq]
end

theorem xp_div (c : Dev nD) : (xp c).val / 2 = 1 - c.val / 2 := by revert c; decide
theorem xp_mod (c : Dev nD) : (xp c).val % 2 = c.val % 2 := by revert c; decide

theorem owner_mod (c : Dev nD) (i : S256x512.Idx) : (owner c i).val % 2 = (i 1).val / 256 := by
  have h : (i 1).val < 512 := (i 1).isLt
  unfold owner
  by_cases hc : (i 1).val / 256 = c.val % 2
  · rw [if_pos hc, hc]
  · rw [if_neg hc, yp_mod]; omega

/-- The block of the whole array `x` that device `c` is given. -/
abbrev blockOf (x : (⟨2, ![512, 512]⟩ : Shape).Idx → EReal) (c : Dev nD) : (⟨2, ![256, 256]⟩ : Shape).Idx → EReal :=
  Layout.blockN ⟨2, ![256, 256]⟩ ⟨2, ![512, 512]⟩ (Layout.meshBlock [2, 2] ![[0], [1]] c) x

/-- A device in the column of place `i` holds, within its half, the entry of `x` in the half its row names. -/
theorem block_entry (x : (⟨2, ![512, 512]⟩ : Shape).Idx → EReal) (c : Dev nD) (k : Fin 2) (i : S256x512.Idx)
    (hk : c.val / 2 = k.val) (hi : c.val % 2 = (i 1).val / 256) : blockOf x c (within i) = x (inHalf k i) := by
  have hc : c.val < 4 := c.isLt
  unfold blockOf
  rw [Layout.blockN_apply]
  refine congrArg x (Shape.idx_ext₂ ?_ ?_)
  · rw [Layout.TilesN.idx_val]
    show (c.val / 2 % 2 * 1 + 0) * 256 + (i 0).val = 256 * k.val + (i 0).val
    omega
  · rw [Layout.TilesN.idx_val]
    show (c.val / 1 % 2 * 1 + 0) * 256 + (i 1).val % 256 = (i 1).val
    omega

/-- When every device holds its block of `x`, every device's result is the sum of the two halves of `x`. -/
theorem ov_total (m : (ℓ : Loc nD τ sig) → Buf (Elt Ideal) ℓ) (x : (⟨2, ![512, 512]⟩ : Shape).Idx → EReal)
    (hm : ∀ c : Dev nD, m ((c.tc : Thread nD τ).loc main_arg0) = blockOf x c) (c : Dev nD) : ov m c = total x := by
  funext i
  have hb : ∀ (d : Dev nD) (k : Fin 2), d.val / 2 = k.val → d.val % 2 = (i 1).val / 256 → sv m d (within i) = x (inHalf k i) :=
    fun d k hk hi => by rw [sv_eq]; exact (congrFun (hm d) _).trans (block_entry x d k i hk hi)
  have ho := owner_mod c i
  have hd : (owner c i).val < 4 := (owner c i).isLt
  have hs : ∀ a b : EReal, sv m (owner c i) (within i) = a → sv m (xp (owner c i)) (within i) = b → ov m c i = a + b := by
    rintro _ _ rfl rfl; rfl
  have hxd := xp_div (owner c i)
  have hxm := (xp_mod (owner c i)).trans ho
  by_cases hr : (owner c i).val / 2 = 0
  · exact hs _ _ (hb _ 0 hr ho) (hb _ 1 (by rw [hxd, hr]; rfl) hxm)
  · have hr1 : (owner c i).val / 2 = 1 := by omega
    exact (hs _ _ (hb _ 1 hr1 ho) (hb _ 0 (by rw [hxd, hr1]; rfl) hxm)).trans (add_comm (G := EReal) _ _)

end Cert.KernelIdeal.Halves

end
-- ==== Proof.lean ====
/-
The claims: the kernel, its exact reading and the reference each end, with arguments unchanged and all counters at zero;
the kernel's text needs no rewriting to be read exactly; and given the blocks of one array, every device ends with the
reference's result for that array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import proofs.«01_k».proof.Proof.Bits.Launch
public import proofs.«01_k».proof.Proof.Ideal.Launch
public import proofs.«01_k».proof.Proof.Ideal.Value
public import Idealize.ShloMosaic.Adequacy
public import Idealize.ShloMosaic.Init

@[expose] public section

noncomputable section

namespace Cert.Proof

open Idealize.ShloMosaic Idealize.ShloMosaic.TcCoe Idealize.SL.Sem

/-- The kernel on bit patterns ends, its block of `x` as it was and every counter at zero. -/
theorem kernel_ends : Cert.quiescent_Kernel (hKernel := Cert.Kernel.Gen.facts) := fun m ρ _ =>
  (θ_run Cert.Kernel.defs _ _).mono (fun _ h => ⟨fun c => (h.1 c (0 : Fin 2)).trans (Cert.Kernel.Halves.final_x m ρ c), h.2⟩)
    (Cert.Kernel.Halves.runs m ρ)

/-- So does the kernel at the exact instance, -/
theorem ideal_ends : Cert.quiescent_KernelIdeal (hKernelIdeal := Cert.KernelIdeal.Gen.facts) := fun m ρ _ =>
  (θ_run Cert.KernelIdeal.defs _ _).mono (fun _ h => ⟨fun c => (h.1 c (0 : Fin 2)).trans (Cert.KernelIdeal.Halves.final_x m ρ c), h.2⟩)
    (Cert.KernelIdeal.Halves.runs m ρ)

/-- and the reference. -/
theorem reference_ends : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.ReferenceIdeal.Total.runs m ρ)

/-- Given the blocks of one array, all four devices end with the reference's result for that array. -/
theorem same_value : Cert.algebraic_KernelIdeal_ReferenceIdeal (hKernelIdeal := Cert.KernelIdeal.Gen.facts)
    (hReferenceIdeal := Cert.ReferenceIdeal.Gen.facts) := fun m ρ m' ρ' _ hblocks =>
  ⟨Cert.ReferenceIdeal.Total.total (m' (((0 : Dev Cert.ReferenceIdeal.nD).tc : Thread _ Cert.ReferenceIdeal.τ).loc Cert.ReferenceIdeal.main_arg0)),
    (θ_run Cert.KernelIdeal.defs _ _).mono
      (fun _ h c => ⟨((h.1 c (1 : Fin 2)).trans (Cert.KernelIdeal.Halves.final_o m ρ c)).trans
          (Cert.KernelIdeal.Halves.ov_total m _ hblocks c),
        (h.1 c (0 : Fin 2)).trans (Cert.KernelIdeal.Halves.final_x m ρ c)⟩)
      (Cert.KernelIdeal.Halves.runs m ρ),
    (θ_run Cert.ReferenceIdeal.defs _ _).mono (fun _ h => h.1 0) (Cert.ReferenceIdeal.Total.runs m' ρ')⟩

theorem claim : Cert.Claim :=
  ⟨Cert.Kernel.Gen.facts, Cert.KernelIdeal.Gen.facts, Cert.ReferenceIdeal.Gen.facts,
    kernel_ends, ideal_ends, reference_ends, trivial, same_value⟩

end Cert.Proof

end
